-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![2048, 256]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![2048, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![2048, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![256, 2048]⟩ 1 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![256, 2048]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![256, 2048]⟩ 1 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![128, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S18x128x256 : Shape := ⟨3, ![18, 128, 256]⟩
abbrev S18 : Shape := ⟨1, ![18]⟩
abbrev S_ : Shape := ⟨0, ![]⟩
abbrev S1 : Shape := ⟨1, ![1]⟩
abbrev S1x128x256 : Shape := ⟨3, ![1, 128, 256]⟩

abbrev nBuf : Space → Nat
  | .hbm => 8
  | .vmem => 10
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S128x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .f32⟩
  | .local _ .vmem, ⟨8, _⟩ => ⟨S128x256, .bf16⟩
  | .local _ .vmem, ⟨9, _⟩ => ⟨S18x128x256, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v19 : BitVec 32 := Scalar.xori v2 c12_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v31 : BitVec 32 := Scalar.xori v2 c1_i32_23
  let c1_i32_27 : BitVec 32 := 1#32
  let v32 : BitVec 32 := Scalar.muli v31 c1_i32_27
  let v33 : BitVec 32 := Scalar.addi c0_i32_28 v32
  v33.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_31 : BitVec 32 := 2#32
  let v40 : BitVec 32 := Scalar.xori v2 c2_i32_31
  let c1_i32_35 : BitVec 32 := 1#32
  let v41 : BitVec 32 := Scalar.muli v40 c1_i32_35
  let v42 : BitVec 32 := Scalar.addi c0_i32_36 v41
  v42.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_39 : BitVec 32 := 3#32
  let v49 : BitVec 32 := Scalar.xori v2 c3_i32_39
  let c1_i32_43 : BitVec 32 := 1#32
  let v50 : BitVec 32 := Scalar.muli v49 c1_i32_43
  let v51 : BitVec 32 := Scalar.addi c0_i32_44 v50
  v51.toNat
def k0_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_97 : BitVec 32 := 4#32
  let v106 : BitVec 32 := Scalar.xori v2 c4_i32_97
  let c1_i32_101 : BitVec 32 := 1#32
  let v107 : BitVec 32 := Scalar.muli v106 c1_i32_101
  let v108 : BitVec 32 := Scalar.addi c0_i32_102 v107
  v108.toNat
def k0_dev11 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_105 : BitVec 32 := 8#32
  let v115 : BitVec 32 := Scalar.xori v2 c8_i32_105
  let c1_i32_109 : BitVec 32 := 1#32
  let v116 : BitVec 32 := Scalar.muli v115 c1_i32_109
  let v117 : BitVec 32 := Scalar.addi c0_i32_110 v116
  v117.toNat
def k0_dev12 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_113 : BitVec 32 := 12#32
  let v124 : BitVec 32 := Scalar.xori v2 c12_i32_113
  let c1_i32_116 : BitVec 32 := 1#32
  let v125 : BitVec 32 := Scalar.muli v124 c1_i32_116
  let v126 : BitVec 32 := Scalar.addi c0_i32_117 v125
  v126.toNat
def k0_dev13 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_180 : BitVec 32 := 1#32
  let v195 : BitVec 32 := Scalar.xori v2 c1_i32_180
  let c1_i32_184 : BitVec 32 := 1#32
  let v196 : BitVec 32 := Scalar.muli v195 c1_i32_184
  let v197 : BitVec 32 := Scalar.addi c0_i32_185 v196
  v197.toNat
def k0_dev14 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_188 : BitVec 32 := 2#32
  let v204 : BitVec 32 := Scalar.xori v2 c2_i32_188
  let c1_i32_191 : BitVec 32 := 1#32
  let v205 : BitVec 32 := Scalar.muli v204 c1_i32_191
  let v206 : BitVec 32 := Scalar.addi c0_i32_192 v205
  v206.toNat
def k0_dev15 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_195 : BitVec 32 := 3#32
  let v213 : BitVec 32 := Scalar.xori v2 c3_i32_195
  let c1_i32_199 : BitVec 32 := 1#32
  let v214 : BitVec 32 := Scalar.muli v213 c1_i32_199
  let v215 : BitVec 32 := Scalar.addi c0_i32_200 v214
  v215.toNat
def k0_dev16 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_252 : BitVec 32 := 4#32
  let v270 : BitVec 32 := Scalar.xori v2 c4_i32_252
  let c1_i32_255 : BitVec 32 := 1#32
  let v271 : BitVec 32 := Scalar.muli v270 c1_i32_255
  let v272 : BitVec 32 := Scalar.addi c0_i32_256 v271
  v272.toNat
def k0_dev17 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_259 : BitVec 32 := 8#32
  let v279 : BitVec 32 := Scalar.xori v2 c8_i32_259
  let c1_i32_262 : BitVec 32 := 1#32
  let v280 : BitVec 32 := Scalar.muli v279 c1_i32_262
  let v281 : BitVec 32 := Scalar.addi c0_i32_263 v280
  v281.toNat
def k0_dev18 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_266 : BitVec 32 := 12#32
  let v288 : BitVec 32 := Scalar.xori v2 c12_i32_266
  let c1_i32_269 : BitVec 32 := 1#32
  let v289 : BitVec 32 := Scalar.muli v288 c1_i32_269
  let v290 : BitVec 32 := Scalar.addi c0_i32_270 v289
  v290.toNat
def k0_dev19 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_333 : BitVec 32 := 1#32
  let v359 : BitVec 32 := Scalar.xori v2 c1_i32_333
  let c1_i32_337 : BitVec 32 := 1#32
  let v360 : BitVec 32 := Scalar.muli v359 c1_i32_337
  let v361 : BitVec 32 := Scalar.addi c0_i32_338 v360
  v361.toNat
def k0_dev20 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_341 : BitVec 32 := 2#32
  let v368 : BitVec 32 := Scalar.xori v2 c2_i32_341
  let c1_i32_344 : BitVec 32 := 1#32
  let v369 : BitVec 32 := Scalar.muli v368 c1_i32_344
  let v370 : BitVec 32 := Scalar.addi c0_i32_345 v369
  v370.toNat
def k0_dev21 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_348 : BitVec 32 := 3#32
  let v377 : BitVec 32 := Scalar.xori v2 c3_i32_348
  let c1_i32_351 : BitVec 32 := 1#32
  let v378 : BitVec 32 := Scalar.muli v377 c1_i32_351
  let v379 : BitVec 32 := Scalar.addi c0_i32_352 v378
  v379.toNat
def k0_dev22 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_404 : BitVec 32 := 4#32
  let v434 : BitVec 32 := Scalar.xori v2 c4_i32_404
  let c1_i32_407 : BitVec 32 := 1#32
  let v435 : BitVec 32 := Scalar.muli v434 c1_i32_407
  let v436 : BitVec 32 := Scalar.addi c0_i32_408 v435
  v436.toNat
def k0_dev23 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_411 : BitVec 32 := 8#32
  let v443 : BitVec 32 := Scalar.xori v2 c8_i32_411
  let c1_i32_415 : BitVec 32 := 1#32
  let v444 : BitVec 32 := Scalar.muli v443 c1_i32_415
  let v445 : BitVec 32 := Scalar.addi c0_i32_416 v444
  v445.toNat
def k0_dev24 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_419 : BitVec 32 := 12#32
  let v452 : BitVec 32 := Scalar.xori v2 c12_i32_419
  let c1_i32_422 : BitVec 32 := 1#32
  let v453 : BitVec 32 := Scalar.muli v452 c1_i32_422
  let v454 : BitVec 32 := Scalar.addi c0_i32_423 v453
  v454.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x2048 : Shape := ⟨2, ![128, 2048]⟩
abbrev S2048x256 : Shape := ⟨2, ![2048, 256]⟩
abbrev S256x2048 : Shape := ⟨2, ![256, 2048]⟩
abbrev S128x256 : Shape := ⟨2, ![128, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S256x2048, .bf16⟩
  | .hbm, ⟨5, _⟩ => ⟨S256x2048, .bf16⟩
  | .hbm, ⟨6, _⟩ => ⟨S256x2048, .bf16⟩
  | .hbm, ⟨7, _⟩ => ⟨S128x256, .f32⟩
  | .hbm, ⟨8, _⟩ => ⟨S128x256, .bf16⟩
  | .hbm, ⟨9, _⟩ => ⟨S_, .bf16⟩
  | .hbm, ⟨10, _⟩ => ⟨S128x256, .bf16⟩
  | .hbm, ⟨11, _⟩ => ⟨S128x256, .bf16⟩
  | .hbm, ⟨12, _⟩ => ⟨S128x2048, .f32⟩
  | .hbm, ⟨13, _⟩ => ⟨S128x2048, .bf16⟩
  | .hbm, ⟨14, _⟩ => ⟨S128x256, .f32⟩
  | .hbm, ⟨15, _⟩ => ⟨S128x256, .bf16⟩
  | .hbm, ⟨16, _⟩ => ⟨S_, .bf16⟩
  | .hbm, ⟨17, _⟩ => ⟨S128x256, .bf16⟩
  | .hbm, ⟨18, _⟩ => ⟨S128x256, .bf16⟩
  | .hbm, ⟨19, _⟩ => ⟨S128x2048, .f32⟩
  | .hbm, ⟨20, _⟩ => ⟨S128x2048, .bf16⟩
  | .hbm, ⟨21, _⟩ => ⟨S128x256, .f32⟩
  | .hbm, ⟨22, _⟩ => ⟨S128x256, .bf16⟩
  | .hbm, ⟨23, _⟩ => ⟨S_, .bf16⟩
  | .hbm, ⟨24, _⟩ => ⟨S128x256, .bf16⟩
  | .hbm, ⟨25, _⟩ => ⟨S128x256, .bf16⟩
  | .hbm, ⟨26, _⟩ => ⟨S128x2048, .f32⟩
  | .hbm, ⟨27, _⟩ => ⟨S128x2048, .bf16⟩
  | .hbm, ⟨28, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Program.lean ====
/-
# The kernel's body, round by round

The printed body is split into parts of a fixed number of lines. Here it is put together again as what it is: an
entry handshake with six peers, then three layers, each a block product, two exchange rounds of three copies each,
and the second product. `body_eq` says the printed body is this program.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MlpProof

open Cert.KernelIdeal Cert.KernelIdeal.Gen
open Idealize.ShloMosaic Idealize.ShloMosaic.TcCoe Idealize.SL.Sem

variable {F : FTy → Type} [FloatOps F]

/-! ## The buffers and semaphores -/

/-- The running sum's buffer. -/
abbrev accM : Memref sig .tc .vmem S128x256 .bf16 := Memref.whole cc0_scratch0
/-- The receive buffer, eighteen slots. -/
abbrev recvM : Memref sig .tc .vmem S18x128x256 .bf16 := Memref.whole cc0_scratch1

/-- A slot lies within the scratch buffer. -/
theorem slot_inb (s : Fin 18) : ∀ a, (![s.val, 0, 0] : Fin 3 → Nat) a + S1x128x256.size a ≤ S18x128x256.size a := by
  revert s; decide
/-- Its semaphore lies within the array of eighteen. -/
theorem sem_inb (s : Fin 18) : ∀ a, (![s.val] : Fin 1 → Nat) a + S1.size a ≤ S18.size a := by revert s; decide
/-- A slot is made of whole words. -/
theorem slot_words (s : Fin 18) :
    (Rect.unit (s := S18x128x256) ![s.val, 0, 0] S1x128x256.size (slot_inb s)).WholeWords (EltTy.packing .bf16) := by
  revert s; decide

/-- The rectangle of slot `s` in the receive buffer. -/
abbrev slotR (s : Fin 18) : Rect S18x128x256 := Rect.unit (s := S18x128x256) ![s.val, 0, 0] S1x128x256.size (slot_inb s)
/-- Slot `s` of the receive buffer. -/
abbrev slotM (s : Fin 18) : Memref sig .tc .vmem S128x256 .bf16 :=
  (recvM.slice (slotR s) (fun _ => rfl)).squeeze S128x256 squeezes_S1x128x256_S128x256
/-- The send semaphore of slot `s`. -/
abbrev sendS (s : Fin 18) : DmaSem sig :=
  (((cc0_scratch2 : DmaSems sig S18).slice (Rect.unit (s := S18) ![s.val] S1.size (sem_inb s))).squeeze S_ squeezes_S1_S_).sem
/-- The receive semaphore of slot `s`. -/
abbrev recvS (s : Fin 18) : DmaSem sig :=
  (((cc0_scratch3 : DmaSems sig S18).slice (Rect.unit (s := S18) ![s.val] S1.size (sem_inb s))).squeeze S_ squeezes_S1_S_).sem
/-- The barrier semaphore the six peers share. -/
abbrev barS : Sem sig := (SemArray.scalar (sig.barrier 0 rfl) : Sems sig S_).sem

/-- The rectangle of a whole block of the running sum. -/
abbrev accR : Rect S128x256 := Rect.unit (s := S128x256) ![0, 0] S128x256.size inb_S128x256_S128x256_0_0

/-! ## The pure steps -/

/-- A layer's first product, rounded. -/
def first (x : Vec F S128x128 .bf16) (w : Vec F S128x256 .bf16) : FVec F S128x256 .bf16 := k0_pay3 x w
/-- One exchange round's sum: the device's own block and the three received, in the order received, rounded. -/
def total (a : Vec F S128x256 .bf16) (x y z : Vec F S1x128x256 .bf16) : FVec F S128x256 .bf16 := k0_pay5 (k0_pay4 a x) y z
/-- From one layer's sum to the next layer's first product. -/
def next (a : Vec F S128x256 .bf16) (wo : Vec F S256x128 .bf16) (wi : Vec F S128x256 .bf16) : FVec F S128x256 .bf16 :=
  k0_pay16 a wo wi
/-- The last product. -/
def last (a : Vec F S128x256 .bf16) (wo : Vec F S256x128 .bf16) : FVec F S128x128 .f32 := k0_pay2 a wo

/-! ## The program -/

/-- A TensorCore program over the float values `F`. -/
abbrev TcProg (F : FTy → Type) (α : Type) : Type 1 := Prog (TpuEff nD τ sig (Elt F) Λ₀ .tc) α

/-- Loading the running sum. -/
def loadAcc : TcProg F (Vec F S128x256 .bf16) :=
  Prog.lift (.load accM accR.toLoadRect (View.loadsAt_vmem h_S128x256))
/-- Storing the running sum. -/
def storeAcc (v : FVec F S128x256 .bf16) : TcProg F PUnit :=
  Prog.lift (.store accM accR v Finset.univ (View.stores_vmem h_S128x256
    ((Memref.isWhole_whole cc0_scratch0).storeExact_slice rfl _ packedbf16_S128x256_S128x256_0_0) (fun _ => rfl)) (.inl rfl))
/-- Loading a layer's first weights. -/
def loadIn (M : Memref sig .tc .vmem S128x256 .bf16) : TcProg F (Vec F S128x256 .bf16) :=
  Prog.lift (.load M accR.toLoadRect (View.loadsAt_vmem h_S128x256))
/-- Loading a layer's second weights. -/
def loadOut (M : Memref sig .tc .vmem S256x128 .bf16) : TcProg F (Vec F S256x128 .bf16) :=
  Prog.lift (.load M (Rect.unit (s := S256x128) ![0, 0] S256x128.size inb_S256x128_S256x128_0_0).toLoadRect (View.loadsAt_vmem h_S256x128))
/-- Send the running sum to slot `s` of device `p`. -/
def send (s : Fin 18) (p : Dev nD) : TcProg F PUnit :=
  Prog.lift (.enqueueDma accM (.remote (Dev.tc p) (slotM s) (.dma (sendS s))) (.dma (recvS s)) (Memref.isWhole_whole cc0_scratch0).wordExact
    (((Memref.isWhole_whole cc0_scratch1).wordExact_slice rfl _ (slot_words s)).reshape _ _) ⟨⟨rfl, Or.inl rfl⟩, trivial⟩)
/-- Wait for the copy sent under slot `s`, then for the one received in it, then read it. -/
def receive (s : Fin 18) : TcProg F (Vec F S1x128x256 .bf16) := do
  Prog.lift (.waitDma2 (sendS s) (slotM s) accM
    (((Memref.isWhole_whole cc0_scratch1).wordExact_slice rfl _ (slot_words s)).reshape _ _) (Memref.isWhole_whole cc0_scratch0).wordExact)
  Prog.lift (.waitDma2 (recvS s) accM (slotM s) (Memref.isWhole_whole cc0_scratch0).wordExact
    (((Memref.isWhole_whole cc0_scratch1).wordExact_slice rfl _ (slot_words s)).reshape _ _))
  Prog.lift (.load recvM (slotR s).toLoadRect (View.loadsAt_vmem h_S1x128x256))

/-- One exchange round over three slots and the three devices sent to. -/
def exchange (s₀ s₁ s₂ : Fin 18) (p₀ p₁ p₂ : Dev nD) : TcProg F PUnit := do
  send s₀ p₀
  send s₁ p₁
  send s₂ p₂
  let a ← loadAcc
  let x ← receive s₀
  let y ← receive s₁
  let z ← receive s₂
  let _ ← loadAcc
  storeAcc (total a x y z)

/-- From one layer to the next. -/
def relayer (wo : Memref sig .tc .vmem S256x128 .bf16) (wi : Memref sig .tc .vmem S128x256 .bf16) : TcProg F PUnit := do
  let a ← loadAcc
  let o ← loadOut wo
  let i ← loadIn wi
  let _ ← loadAcc
  storeAcc (next a o i)

/-- The entry handshake of device `c`. -/
def handshake (c : Dev nD) : TcProg F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semSignalWord (⟨k0_dev5 c, k0_dev5_lt c⟩ : Dev nD) barS 1#32
  semSignalWord (⟨k0_dev6 c, k0_dev6_lt c⟩ : Dev nD) barS 1#32
  semWaitWord barS 6#32

/-- The first layer's first product. -/
def begin₀ : TcProg F PUnit := do
  let x ← Prog.lift (.load (Memref.whole cc0_stg0_0) (Rect.unit (s := S128x128) ![0, 0] S128x128.size inb_S128x128_S128x128_0_0).toLoadRect (View.loadsAt_vmem h_S128x128))
  let w ← loadIn (Memref.whole cc0_stg1_0)
  let _ ← loadAcc
  storeAcc (first x w)

/-- The last product, stored as the result. -/
def finish : TcProg F PUnit := do
  let a ← loadAcc
  let o ← loadOut (Memref.whole cc0_stg6_0)
  let _ ← Prog.lift (.load (Memref.whole cc0_stg7_0) (Rect.unit (s := S128x128) ![0, 0] S128x128.size inb_S128x128_S128x128_0_0).toLoadRect (View.loadsAt_vmem h_S128x128))
  Prog.lift (.store (Memref.whole cc0_stg7_0) (Rect.unit (s := S128x128) ![0, 0] S128x128.size inb_S128x128_S128x128_0_0) (last a o) Finset.univ
    (View.stores_vmem_bits_univ h_S128x128 rfl) (.inl rfl))

/-- The whole body. -/
def bodyP : TcProg F PUnit := do
  let c : Dev nD ← Prog.lift .deviceId
  handshake c
  begin₀
  exchange 0 1 2 ⟨k0_dev7 c, k0_dev7_lt c⟩ ⟨k0_dev8 c, k0_dev8_lt c⟩ ⟨k0_dev9 c, k0_dev9_lt c⟩
  exchange 3 4 5 ⟨k0_dev10 c, k0_dev10_lt c⟩ ⟨k0_dev11 c, k0_dev11_lt c⟩ ⟨k0_dev12 c, k0_dev12_lt c⟩
  relayer (Memref.whole cc0_stg2_0) (Memref.whole cc0_stg3_0)
  exchange 6 7 8 ⟨k0_dev13 c, k0_dev13_lt c⟩ ⟨k0_dev14 c, k0_dev14_lt c⟩ ⟨k0_dev15 c, k0_dev15_lt c⟩
  exchange 9 10 11 ⟨k0_dev16 c, k0_dev16_lt c⟩ ⟨k0_dev17 c, k0_dev17_lt c⟩ ⟨k0_dev18 c, k0_dev18_lt c⟩
  relayer (Memref.whole cc0_stg4_0) (Memref.whole cc0_stg5_0)
  exchange 12 13 14 ⟨k0_dev19 c, k0_dev19_lt c⟩ ⟨k0_dev20 c, k0_dev20_lt c⟩ ⟨k0_dev21 c, k0_dev21_lt c⟩
  exchange 15 16 17 ⟨k0_dev22 c, k0_dev22_lt c⟩ ⟨k0_dev23 c, k0_dev23_lt c⟩ ⟨k0_dev24 c, k0_dev24_lt c⟩
  finish

set_option maxRecDepth 65536 in
/-- The printed body is `bodyP`. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _) cc0_scratch2 cc0_scratch3
    = bodyP (F := F) := rfl

end Cert.MlpProof

end
-- ==== Proof.Schedule.lean ====
/-
# Contents and protocol

Six peers per device, eighteen receive slots, one send and one receive semaphore per slot. This module states what
each device's running sum holds after each exchange round, and the protocol the devices follow: which semaphore is
signalled by whom, how much, and what memory is handed over with it.
-/
module

public import proofs.«01_k».proof.Proof.Program

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: one round counter per semaphore, six duty names. -/
abbrev UB : Type := URounds (GSem nD τ sig) (Fin 6)
/-- The pipeline's ghost state beside the protocol's. -/
abbrev UU : Type := UR sig nD τ × UB

local notation "𝕄" => MT nD τ sig Unit (Elt F) ℕ UU ℕ

/-- Where the pipeline's resources and the schedule's live; no loop variants. -/
abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers -/

/-- The six bit masks a device's peers differ from it by. -/
def mask : Fin 6 → ℕ := ![1, 2, 3, 4, 8, 12]
/-- A partner's number is a device's. -/
theorem peer_lt (d : Fin 6) (c : Dev nD) : c.val ^^^ mask d < nD := by revert d c; decide
/-- Peer `d` of device `c`. -/
def peer (d : Fin 6) (c : Dev nD) : Dev nD := ⟨c.val ^^^ mask d, peer_lt d c⟩
/-- A partner's partner is the device itself. -/
theorem peer_peer (d : Fin 6) (c : Dev nD) : peer d (peer d c) = c := by revert d c; decide

/-- A remainder by six is a direction. -/
theorem dir_lt (n : ℕ) : n % 6 < 6 := Nat.mod_lt _ (by decide)
/-- Which peer slot `n` is exchanged with. -/
def dir (n : ℕ) : Fin 6 := ⟨n % 6, dir_lt n⟩

/-- The devices the entry handshake signals are the six peers. -/
theorem signal_devs (c : Dev nD) : (⟨k0_dev1 c, k0_dev1_lt c⟩ : Dev nD) = peer 0 c ∧ (⟨k0_dev2 c, k0_dev2_lt c⟩ : Dev nD) = peer 1 c
    ∧ (⟨k0_dev3 c, k0_dev3_lt c⟩ : Dev nD) = peer 2 c ∧ (⟨k0_dev4 c, k0_dev4_lt c⟩ : Dev nD) = peer 3 c
    ∧ (⟨k0_dev5 c, k0_dev5_lt c⟩ : Dev nD) = peer 4 c ∧ (⟨k0_dev6 c, k0_dev6_lt c⟩ : Dev nD) = peer 5 c := by
  revert c; decide
/-- The devices the first layer's copies go to. -/
theorem send_devs₁ (c : Dev nD) : (⟨k0_dev7 c, k0_dev7_lt c⟩ : Dev nD) = peer 0 c ∧ (⟨k0_dev8 c, k0_dev8_lt c⟩ : Dev nD) = peer 1 c
    ∧ (⟨k0_dev9 c, k0_dev9_lt c⟩ : Dev nD) = peer 2 c ∧ (⟨k0_dev10 c, k0_dev10_lt c⟩ : Dev nD) = peer 3 c
    ∧ (⟨k0_dev11 c, k0_dev11_lt c⟩ : Dev nD) = peer 4 c ∧ (⟨k0_dev12 c, k0_dev12_lt c⟩ : Dev nD) = peer 5 c := by
  revert c; decide
/-- The devices the second layer's copies go to. -/
theorem send_devs₂ (c : Dev nD) : (⟨k0_dev13 c, k0_dev13_lt c⟩ : Dev nD) = peer 0 c ∧ (⟨k0_dev14 c, k0_dev14_lt c⟩ : Dev nD) = peer 1 c
    ∧ (⟨k0_dev15 c, k0_dev15_lt c⟩ : Dev nD) = peer 2 c ∧ (⟨k0_dev16 c, k0_dev16_lt c⟩ : Dev nD) = peer 3 c
    ∧ (⟨k0_dev17 c, k0_dev17_lt c⟩ : Dev nD) = peer 4 c ∧ (⟨k0_dev18 c, k0_dev18_lt c⟩ : Dev nD) = peer 5 c := by
  revert c; decide
/-- The devices the third layer's copies go to. -/
theorem send_devs₃ (c : Dev nD) : (⟨k0_dev19 c, k0_dev19_lt c⟩ : Dev nD) = peer 0 c ∧ (⟨k0_dev20 c, k0_dev20_lt c⟩ : Dev nD) = peer 1 c
    ∧ (⟨k0_dev21 c, k0_dev21_lt c⟩ : Dev nD) = peer 2 c ∧ (⟨k0_dev22 c, k0_dev22_lt c⟩ : Dev nD) = peer 3 c
    ∧ (⟨k0_dev23 c, k0_dev23_lt c⟩ : Dev nD) = peer 4 c ∧ (⟨k0_dev24 c, k0_dev24_lt c⟩ : Dev nD) = peer 5 c := by
  revert c; decide

/-! ## Cells -/

/-- A device's barrier cell; a slot's send cell; its receive cell. -/
abbrev barCell (c : Dev nD) : GSem nD τ sig := ((c : Thread nD τ), .reg barS)
abbrev sendCell (c : Dev nD) (s : Fin 18) : GSem nD τ sig := ((c : Thread nD τ), .dma (sendS s))
abbrev recvCell (c : Dev nD) (s : Fin 18) : GSem nD τ sig := ((c : Thread nD τ), .dma (recvS s))

/-- The send semaphores' numbers. -/
theorem sendS_val (s : Fin 18) : (sendS s).val = 8 + s.val := by revert s; decide
/-- The receive semaphores' numbers. -/
theorem recvS_val (s : Fin 18) : (recvS s).val = 26 + s.val := by revert s; decide

/-- The slot a send or receive semaphore belongs to. -/
def slotOf (q : DmaSem sig) : Fin 18 := ⟨(q.val - 8) % 18, Nat.mod_lt _ (by decide)⟩
/-- The slot of a send semaphore. -/
theorem slotOf_send (s : Fin 18) : slotOf (sendS s) = s := by
  apply Fin.ext; show ((sendS s).val - 8) % 18 = s.val; rw [sendS_val]; have := s.isLt; omega
/-- The slot of a receive semaphore. -/
theorem slotOf_recv (s : Fin 18) : slotOf (recvS s) = s := by
  apply Fin.ext; show ((recvS s).val - 8) % 18 = s.val; rw [recvS_val]; have := s.isLt; omega

/-- The credit of one copied block. -/
abbrev N : ℕ := (accM : Memref sig .tc .vmem S128x256 .bf16).view.dmaCredit
/-- A block's credit is not zero. -/
theorem N_pos : 0 < N := View.dmaCredit_pos _ (by decide)

/-! ## Contents -/

/-- What a device reads: its block of the input, and its blocks of the three layers' weights. -/
structure In (F : FTy → Type) where
  x : Vec F S128x128 .bf16
  wi : ℕ → Vec F S128x256 .bf16
  wo : ℕ → Vec F S256x128 .bf16

/-- One round's sum of four blocks, in the kernel's order, rounded. -/
def sum4 (a x y z : Vec F S128x256 .bf16) : FVec F S128x256 .bf16 :=
  total a (shapeCast S1x128x256 x rfl) (shapeCast S1x128x256 y rfl) (shapeCast S1x128x256 z rfl)

/-- One exchange round: device `c` sums its block with those of the round's three peers. -/
def roundSum (n : ℕ) (A : Dev nD → Vec F S128x256 .bf16) (c : Dev nD) : Vec F S128x256 .bf16 :=
  sum4 (A c) (A (peer (dir n) c)) (A (peer (dir (n + 1)) c)) (A (peer (dir (n + 2)) c))

/-- The running sum before round `k`, on every device. -/
def acc (I : Dev nD → In F) : ℕ → Dev nD → Vec F S128x256 .bf16
  | 0 => fun c => first (I c).x ((I c).wi 0)
  | k + 1 => fun c =>
      if k % 2 = 0 then roundSum (3 * k) (acc I k) c
      else next (roundSum (3 * k) (acc I k) c) ((I c).wo (k / 2)) ((I c).wi (k / 2 + 1))

/-- The result on device `c`. -/
def result (I : Dev nD → In F) (c : Dev nD) : Vec F S128x128 .f32 := last (roundSum 15 (acc I 5) c) ((I c).wo 2)

/-! ## Shares -/

/-- The running sum's contents at a share. -/
def accPts (c : Dev nD) (q : PosShare TreeShare) (X : Vec F S128x256 .bf16) : sProp 𝕄 :=
  (accM : Memref sig .tc .vmem S128x256 .bf16).view.loc (c : Thread nD τ) ↦[(accM : Memref sig .tc .vmem S128x256 .bf16).view.set]{q} X
/-- The three shares of the running sum sent with a round's copies; the left half stays for the loads. -/
def part (j : ℕ) : PosShare TreeShare :=
  if j = 0 then fullShare.right.left else if j = 1 then fullShare.right.right.left else fullShare.right.right.right
/-- Slot `s` of device `c` at some contents. -/
def slotAny (c : Dev nD) (s : Fin 18) : sProp 𝕄 :=
  iprop(∃ f, (slotM s).view.loc (c : Thread nD τ) ↦[(slotM s).view.set]{fullShare} f)
/-- Slot `s` of device `c` holding the block `X`. -/
def slotHolds (c : Dev nD) (s : Fin 18) (X : Vec F S128x256 .bf16) : sProp 𝕄 :=
  iprop(∃ f, ⌜(slotM s).view.read (Elt F) f = X⌝ ∗ (slotM s).view.loc (c : Thread nD τ) ↦[(slotM s).view.set]{fullShare} f)

omit [FloatOps F] in
/-- A share of the running sum may lie in an invariant. -/
instance accPts_storable (c : Dev nD) (q) (X) : BI.Storable (upEmb : UEmb _ 𝕄) (accPts (F := F) c q X) := by unfold accPts; infer_instance
omit [FloatOps F] in
/-- So may a slot. -/
instance slotAny_storable (c : Dev nD) (s) : BI.Storable (upEmb : UEmb _ 𝕄) (slotAny (F := F) c s) := by unfold slotAny; infer_instance
omit [FloatOps F] in
/-- So may a slot with known contents. -/
instance slotHolds_storable (c : Dev nD) (s) (X) : BI.Storable (upEmb : UEmb _ 𝕄) (slotHolds (F := F) c s X) := by unfold slotHolds; infer_instance

omit [FloatOps F] in
/-- A slot with known contents is a slot. -/
theorem slotHolds_any (c : Dev nD) (s : Fin 18) (X : Vec F S128x256 .bf16) : (slotHolds c s X : sProp 𝕄) ⊢ slotAny c s := by
  unfold slotHolds slotAny; iintro ⟨%f, -, H⟩; iexists f; iexact H

/-! ## The protocol -/

/-- The slot of layer `l` exchanged with peer `d`. -/
def slotAt (d : Fin 6) (l : Fin 3) : Fin 18 := ⟨6 * l.val + d.val, by have := d.isLt; have := l.isLt; omega⟩

/-- What peer `d`'s signal hands `c`: the peer's three slots that `c` will copy into. -/
def barPay (c : Dev nD) (d : Fin 6) : sProp 𝕄 := bigSep Finset.univ fun l : Fin 3 => slotAny (peer d c) (slotAt d l)
/-- What the copy into slot `s` hands `c`: the slot, holding the sender's running sum. -/
def recvPay (I : Dev nD → In F) (c : Dev nD) (s : Fin 18) : sProp 𝕄 := slotHolds c s (acc I (s.val / 3) (peer (dir s.val) c))
/-- What the end of a copy's send hands back: the share of the running sum it read. -/
def sendPay (I : Dev nD → In F) (c : Dev nD) (s : Fin 18) : sProp 𝕄 := accPts c (part (s.val % 3)) (acc I (s.val / 3) c)

/-- One round: a barrier cell has six duties of one unit, a send or receive cell one duty of a block's credit. -/
def sched (I : Dev nD → In F) : Rounds.Schedule (GSem nD τ sig) (Fin 6) 𝕄 where
  duties g r := if r = 0 ∧ g.1.2 = .tc then
      (match g.2 with
        | .reg _ => Finset.univ
        | .dma q => if 8 ≤ q.val then {0} else ∅)
    else ∅
  unitless _ := False
  amount g _ _ := match g.2 with
    | .reg _ => 1
    | .dma _ => N
  payload g _ d := match g.2 with
    | .reg _ => barPay g.1.1 d
    | .dma q => if 26 ≤ q.val then recvPay I g.1.1 (slotOf q) else sendPay I g.1.1 (slotOf q)
  amount_pos g _ _ _ := by
    rcases g with ⟨t, _ | _⟩
    · exact Nat.one_pos
    · exact N_pos

/-- Every payload may lie in an invariant. -/
instance sched_payload_storable (I : Dev nD → In F) (g : GSem nD τ sig) (r : ℕ) (d : Fin 6) :
    BI.Storable (upEmb : UEmb _ 𝕄) ((sched I).payload g r d) := by
  rcases g with ⟨t, q | q⟩
  · show BI.Storable upEmb (barPay t.1 d); unfold barPay; infer_instance
  · show BI.Storable upEmb (if 26 ≤ q.val then recvPay I t.1 (slotOf q) else sendPay I t.1 (slotOf q))
    unfold recvPay sendPay; split <;> infer_instance

section Sched
variable (I : Dev nD → In F) (c : Dev nD) (s : Fin 18)

/-- A barrier cell has all six duties. -/
theorem duties_bar : (sched I).duties (barCell c) 0 = Finset.univ := by dsimp only [sched]; exact if_pos ⟨rfl, rfl⟩
/-- A send cell has one duty. -/
theorem duties_send : (sched I).duties (sendCell c s) 0 = {0} := by
  dsimp only [sched]; rw [if_pos ⟨rfl, rfl⟩]; exact if_pos (by rw [sendS_val]; omega)
/-- A receive cell has one duty. -/
theorem duties_recv : (sched I).duties (recvCell c s) 0 = {0} := by
  dsimp only [sched]; rw [if_pos ⟨rfl, rfl⟩]; exact if_pos (by rw [recvS_val]; omega)
/-- No cell has a duty after its first round. -/
theorem duties_later (g : GSem nD τ sig) : ∀ r, 1 ≤ r → (sched I).duties g r = ∅ := fun r hr => if_neg fun h => by omega

/-- A barrier duty is one unit. -/
theorem amount_bar (d : Fin 6) : (sched I).amount (barCell c) 0 d = 1 := rfl
/-- A send duty is a block's credit. -/
theorem amount_send (d : Fin 6) : (sched I).amount (sendCell c s) 0 d = N := rfl
/-- So is a receive duty. -/
theorem amount_recv (d : Fin 6) : (sched I).amount (recvCell c s) 0 d = N := rfl

/-- A barrier cell expects six units. -/
theorem expect_bar : (sched I).expect (barCell c) 0 = 6 := by
  unfold Schedule.expect Schedule.amountOf
  rw [duties_bar, Finset.sum_congr rfl fun d _ => amount_bar I c d, Finset.sum_const, Finset.card_univ, Fintype.card_fin, smul_eq_mul]
/-- A send cell expects a block's credit. -/
theorem expect_send : (sched I).expect (sendCell c s) 0 = N := by
  unfold Schedule.expect Schedule.amountOf; rw [duties_send, Finset.sum_singleton, amount_send]
/-- So does a receive cell. -/
theorem expect_recv : (sched I).expect (recvCell c s) 0 = N := by
  unfold Schedule.expect Schedule.amountOf; rw [duties_recv, Finset.sum_singleton, amount_recv]

/-- What a barrier duty hands over. -/
theorem payload_bar (d : Fin 6) : (sched I).payload (barCell c) 0 d = barPay c d := rfl
/-- What a send duty hands over. -/
theorem payload_send (d : Fin 6) : (sched I).payload (sendCell c s) 0 d = sendPay I c s := by
  refine (if_neg ?_).trans (by rw [slotOf_send]); rw [sendS_val]; have := s.isLt; omega
/-- What a receive duty hands over. -/
theorem payload_recv (d : Fin 6) : (sched I).payload (recvCell c s) 0 d = recvPay I c s := by
  refine (if_pos ?_).trans (by rw [slotOf_recv]); rw [recvS_val]; omega

/-- A barrier cell's whole round hands over every peer's slots. -/
theorem rest_bar : bigSep ((sched I).duties (barCell c) 0 \ ∅) (fun d => (sched I).payload (barCell c) 0 d) = bigSep Finset.univ fun d => barPay c d := by
  rw [Finset.sdiff_empty, duties_bar]; rfl
/-- All that a send cell's duties hand over. -/
theorem rest_send : bigSep ((sched I).duties (sendCell c s) 0 \ ∅) (fun d => (sched I).payload (sendCell c s) 0 d) = sendPay I c s := by
  rw [Finset.sdiff_empty, duties_send, bigSep_singleton, payload_send]
/-- All that a receive cell's duties hand over. -/
theorem rest_recv : bigSep ((sched I).duties (recvCell c s) 0 \ ∅) (fun d => (sched I).payload (recvCell c s) 0 d) = recvPay I c s := by
  rw [Finset.sdiff_empty, duties_recv, bigSep_singleton, payload_recv]

end Sched

/-! ## What is owed, and the levels -/

/-- What `c` still owes its peers' receive cells before the copy of slot `n`. -/
def owedSlots (n : ℕ) (c : Dev nD) : CellTallies nD τ sig Unit :=
  ∑ s ∈ Finset.univ.filter (fun s : Fin 18 => n ≤ s.val), tallyAt (recvCell (peer (dir s.val) c) s) () N
/-- What `c` still owes before its handshake signal `n`. -/
def owedBar (n : ℕ) (c : Dev nD) : CellTallies nD τ sig Unit :=
  owedSlots 0 c + ∑ d ∈ Finset.univ.filter (fun d : Fin 6 => n ≤ d.val), tallyAt (barCell (peer d c)) () 1

/-- The indices from `s` on are `s` and those after it. -/
theorem filter_peel {n : ℕ} (s : Fin n) :
    Finset.univ.filter (fun t : Fin n => s.val ≤ t.val) = insert s (Finset.univ.filter fun t : Fin n => s.val + 1 ≤ t.val) := by
  ext t; simp only [Finset.mem_filter, Finset.mem_insert, Finset.mem_univ, true_and, Fin.ext_iff]; omega

/-- What is owed from slot `s` on is slot `s`'s block and what is owed after it. -/
theorem owedSlots_peel (s : Fin 18) (c : Dev nD) :
    owedSlots s.val c = owedSlots (s.val + 1) c + tallyAt (recvCell (peer (dir s.val) c) s) () N := by
  unfold owedSlots
  rw [filter_peel s, Finset.sum_insert (by simp), add_comm]
/-- What is owed from barrier signal `d` on is that signal's unit and what is owed after it. -/
theorem owedBar_peel (d : Fin 6) (c : Dev nD) : owedBar d.val c = owedBar (d.val + 1) c + tallyAt (barCell (peer d c)) () 1 := by
  unfold owedBar
  rw [filter_peel d, Finset.sum_insert (by simp), add_comm (tallyAt _ _ _), add_assoc]
/-- After the last slot nothing is owed. -/
theorem owedSlots_end (c : Dev nD) : owedSlots 18 c = 0 := by
  unfold owedSlots; rw [Finset.filter_false_of_mem (fun s _ => by have := s.isLt; omega), Finset.sum_empty]
/-- After the last barrier signal the slots are owed. -/
theorem owedBar_end (c : Dev nD) : owedBar 6 c = owedSlots 0 c := by
  unfold owedBar; rw [Finset.filter_false_of_mem (fun s _ => by have := s.isLt; omega), Finset.sum_empty, add_zero]

/-- One kind of wait record per TensorCore cell. -/
def L (g : GSem nD τ sig) : Finset Unit := if g.1.2 = .tc then {()} else ∅
/-- Barrier cells at level 1, the receive cells of round `k` at level `2 + k`, everything else at 0. -/
def lv (g : GSem nD τ sig) (_ : Unit) : ℕ := match g.2 with
  | .reg _ => 1
  | .dma q => if 26 ≤ q.val then 2 + (q.val - 26) / 3 else 0

/-- Only a device's main core has levels. -/
theorem L_of_ne (g : GSem nD τ sig) (h : g.1.2 ≠ .tc) : L g = ∅ := if_neg h
/-- Each of its cells has one. -/
theorem L_tc (c : Dev nD) (sm : SemLoc sig) : L ((c : Thread nD τ), sm) = {()} := if_pos rfl
/-- The barrier's level. -/
theorem lv_bar (c : Dev nD) : lv (barCell c) () = 1 := rfl
/-- A receive cell's level goes by its round. -/
theorem lv_recv (c : Dev nD) (s : Fin 18) : lv (recvCell c s) () = 2 + s.val / 3 := by
  refine (if_pos (by rw [recvS_val]; omega)).trans ?_; rw [recvS_val, Nat.add_sub_cancel_left]
/-- A send cell's level is the lowest. -/
theorem lv_send (c : Dev nD) (s : Fin 18) : lv (sendCell c s) () = 0 := by
  refine if_neg ?_; rw [sendS_val]; have := s.isLt; omega

/-- Where a sum of tallies is positive one of its cells lies. -/
theorem sum_tally_pos {T : Type} {S : Finset T} {cell : T → GSem nD τ sig} {k : T → ℕ} {g : GSem nD τ sig} {u : Unit}
    (h : 0 < (∑ t ∈ S, tallyAt (cell t) () (k t) : CellTallies nD τ sig Unit) g u) : ∃ t ∈ S, g = cell t := by
  rw [Finset.sum_apply, Finsupp.finset_sum_apply] at h
  obtain ⟨t, ht, hne⟩ := Finset.exists_ne_zero_of_sum_ne_zero (Nat.pos_iff_ne_zero.mp h)
  refine ⟨t, ht, ?_⟩
  by_contra hn
  exact hne (by rw [tallyAt_apply, if_neg fun h' => hn h'.1])

/-- Where slots are owed: the receive cells of slots still to be sent. -/
theorem owedSlots_pos {n : ℕ} {c : Dev nD} {g : GSem nD τ sig} {u : Unit} (h : 0 < owedSlots n c g u) :
    ∃ s : Fin 18, n ≤ s.val ∧ g = recvCell (peer (dir s.val) c) s := by
  obtain ⟨s, hs, hg⟩ := sum_tally_pos h
  exact ⟨s, (Finset.mem_filter.mp hs).2, hg⟩
/-- Where anything is owed: a barrier cell, or a receive cell. -/
theorem owedBar_pos {n : ℕ} {c : Dev nD} {g : GSem nD τ sig} {u : Unit} (h : 0 < owedBar n c g u) :
    (∃ s : Fin 18, g = recvCell (peer (dir s.val) c) s) ∨ ∃ d : Fin 6, g = barCell (peer d c) := by
  unfold owedBar at h
  rw [Pi.add_apply, Finsupp.add_apply] at h
  rcases Nat.pos_iff_ne_zero.mp h |> fun h => (Nat.add_pos_iff_pos_or_pos.mp (Nat.pos_of_ne_zero h)) with h | h
  · obtain ⟨s, -, hg⟩ := owedSlots_pos h; exact Or.inl ⟨s, hg⟩
  · obtain ⟨d, -, hg⟩ := sum_tally_pos h; exact Or.inr ⟨d, hg⟩

omit [FloatOps F] in
/-- A wait on a cell of level at most `ℓ` is allowed when everything owed lies above `ℓ`. -/
theorem mayWait (c : Dev nD) (sm : SemLoc sig) (O : CellTallies nD τ sig Unit) (ℓ : ℕ) (hp : lv ((c : Thread nD τ), sm) () ≤ ℓ)
    (hO : ∀ g u, 0 < O g u → g.1.2 = .tc ∧ ℓ < lv g u) : (levAts L lv : sProp 𝕄) ⊢ MayWait (c : Thread nD τ) sm () O :=
  MayOwe.of_cut (L := L) (lev := lv) ℓ (fun p hp => by rw [Finset.mem_singleton.mp hp, L_tc]; exact Finset.mem_singleton_self _)
    (fun g u hg => by unfold L; rw [if_pos (hO g u hg).1]; exact Finset.mem_singleton_self _)
    (fun p h => by rw [Finset.mem_singleton.mp h]; exact hp)
    (fun g u hg => (hO g u hg).2)

omit [FloatOps F] in
/-- While it owes slots from round `k` on, a device may wait on any cell below level `2 + k`. -/
theorem mayWait_slots (c : Dev nD) (sm : SemLoc sig) (k : ℕ) (hp : lv ((c : Thread nD τ), sm) () < 2 + k) :
    (levAts L lv : sProp 𝕄) ⊢ MayWait (c : Thread nD τ) sm () (owedSlots (3 * k) c) :=
  mayWait c sm _ (1 + k) (by omega) fun g u hg => by
    obtain ⟨s, hs, rfl⟩ := owedSlots_pos hg
    exact ⟨rfl, by rw [lv_recv]; omega⟩

omit [FloatOps F] in
/-- A wait on a cell of level 0 is allowed whatever of the launch's debts is still owed. -/
theorem mayWait_zero_level (c : Dev nD) (sm : SemLoc sig) (hp : lv ((c : Thread nD τ), sm) () = 0) :
    (levAts L lv : sProp 𝕄) ⊢ MayWait (c : Thread nD τ) sm () (owedBar 0 c) :=
  mayWait c sm _ 0 (by omega) fun g u hg => by
    rcases owedBar_pos hg with ⟨s, rfl⟩ | ⟨d, rfl⟩
    · exact ⟨rfl, by rw [lv_recv]; omega⟩
    · exact ⟨rfl, by rw [lv_bar]; omega⟩

end Cert.MlpProof

end
-- ==== Proof.Round.lean ====
/-
# One exchange round

What one device does with one slot — send its running sum into a peer's slot, wait for the send and for the peer's
block, read it — and one whole round of three slots.
-/
module

public import proofs.«01_k».proof.Proof.Schedule
public import Idealize.ShloMosaic.Lib.Pipeline.Value

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` runs `p` and ends in `Q`. -/
abbrev runs {α : Type} (c : Dev nD) (p : TcProg F α) (Q : α → sProp 𝕄) : sProp 𝕄 :=
  wp frame (wpE (defs₀ (F := F)) 𝒱₀ (c : Thread nD τ) none) Set.univ p Q

/-- A fact about a part of a program, used in front of the rest. -/
theorem runs_then {α : Type} {c : Dev nD} {p : TcProg F α} {P : sProp 𝕄} {R Q : α → sProp 𝕄} (h : P ⊢ runs c p R) :
    P ⊢ iprop((∀ a, R a -∗ Q a) -∗ runs c p Q) := h.trans (wp_wand _ _ _)

/-! ## Records -/

/-- The names the cells' invariants are kept under. -/
structure Names where
  bar : Dev nD → ℕ
  snd : Dev nD × Fin 18 → ℕ
  rcv : Dev nD × Fin 18 → ℕ

/-- Every cell's invariant, and that every cell has reached round 0. -/
def records (I : Dev nD → In F) (K : Names) : sProp 𝕄 :=
  iprop(((bigSep Finset.univ fun c : Dev nD => cellInv ER (sched I) (K.bar c) (barCell c))
      ∗ (bigSep Finset.univ fun x : Dev nD × Fin 18 => cellInv ER (sched I) (K.snd x) (sendCell x.1 x.2))
      ∗ (bigSep Finset.univ fun x : Dev nD × Fin 18 => cellInv ER (sched I) (K.rcv x) (recvCell x.1 x.2)))
    ∗ (bigSep Finset.univ fun c : Dev nD => reached ER (barCell c) 0)
    ∗ (bigSep Finset.univ fun x : Dev nD × Fin 18 => reached ER (sendCell x.1 x.2) 0)
    ∗ (bigSep Finset.univ fun x : Dev nD × Fin 18 => reached ER (recvCell x.1 x.2) 0))

/-- The records may be copied. -/
instance records_persistent (I : Dev nD → In F) (K : Names) : BI.Persistent (records I K) := by unfold records; infer_instance

/-- One piece of a product over a finite type. -/
theorem piece_of {T : Type} [Fintype T] [DecidableEq T] (Φ : T → sProp 𝕄) (t : T) : (bigSep Finset.univ Φ : sProp 𝕄) ⊢ Φ t := bigSep_elim (Finset.mem_univ t)

section Records
variable (I : Dev nD → In F) (K : Names) (c : Dev nD) (s : Fin 18)

/-- The records hold each barrier cell's invariant. -/
theorem inv_bar : (records I K : sProp 𝕄) ⊢ cellInv ER (sched I) (K.bar c) (barCell c) := by
  unfold records; iintro ⟨⟨H, -, -⟩, -⟩; iapply (piece_of (fun c : Dev nD => cellInv ER (sched I) (K.bar c) (barCell c)) c); iexact H
/-- The records hold each send cell's invariant. -/
theorem inv_send : (records I K : sProp 𝕄) ⊢ cellInv ER (sched I) (K.snd (c, s)) (sendCell c s) := by
  unfold records; iintro ⟨⟨-, H, -⟩, -⟩
  iapply (piece_of (fun x : Dev nD × Fin 18 => (cellInv ER (sched I) (K.snd x) (sendCell x.1 x.2) : sProp 𝕄)) (c, s)); iexact H
/-- The records hold each receive cell's invariant. -/
theorem inv_recv : (records I K : sProp 𝕄) ⊢ cellInv ER (sched I) (K.rcv (c, s)) (recvCell c s) := by
  unfold records; iintro ⟨⟨-, -, H⟩, -⟩
  iapply (piece_of (fun x : Dev nD × Fin 18 => (cellInv ER (sched I) (K.rcv x) (recvCell x.1 x.2) : sProp 𝕄)) (c, s)); iexact H
/-- The records say that each barrier cell reached its round. -/
theorem reached_bar : (records I K : sProp 𝕄) ⊢ reached ER (barCell c) 0 := by
  unfold records; iintro ⟨-, H, -⟩; iapply (piece_of (fun c : Dev nD => (reached ER (barCell c) 0 : sProp 𝕄)) c); iexact H
/-- The records say that each send cell reached its round. -/
theorem reached_send : (records I K : sProp 𝕄) ⊢ reached ER (sendCell c s) 0 := by
  unfold records; iintro ⟨-, -, H, -⟩
  iapply (piece_of (fun x : Dev nD × Fin 18 => (reached ER (sendCell x.1 x.2) 0 : sProp 𝕄)) (c, s)); iexact H
/-- The records say that each receive cell reached its round. -/
theorem reached_recv : (records I K : sProp 𝕄) ⊢ reached ER (recvCell c s) 0 := by
  unfold records; iintro ⟨-, -, -, H⟩
  iapply (piece_of (fun x : Dev nD × Fin 18 => (reached ER (recvCell x.1 x.2) 0 : sProp 𝕄)) (c, s)); iexact H

end Records

/-! ## One slot -/

/-- What a device needs for its own part in slot `s`, its peer's slot aside. -/
def slotOwn (c : Dev nD) (s : Fin 18) : sProp 𝕄 :=
  iprop(atPos ER (sendCell c s) 0 ∅ 0 ∗ atPos ER (recvCell c s) 0 ∅ 0
    ∗ dutyTok ER (sendCell c s) 0 0 ∗ dutyTok ER (recvCell (peer (dir s.val) c) s) 0 0
    ∗ cred (tallyAt (recvCell c s) () N))
/-- The same after the copy has started. -/
def slotSent (c : Dev nD) (s : Fin 18) : sProp 𝕄 :=
  iprop(atPos ER (sendCell c s) 0 ∅ 0 ∗ atPos ER (recvCell c s) 0 ∅ 0
    ∗ cred (tallyAt (sendCell c s) () N) ∗ cred (tallyAt (recvCell c s) () N))
/-- The slot's end: both semaphores back at zero, the device's own slot back. -/
def slotDone (c : Dev nD) (s : Fin 18) : sProp 𝕄 :=
  iprop(semVal (sendCell c s) 0 ∗ semVal (recvCell c s) 0 ∗ slotAny c s)
/-- The debts `O`, at whatever waits were recorded. -/
def owesAny (c : Dev nD) (O : CellTallies nD τ sig Unit) : sProp 𝕄 := iprop(∃ W, owes (c : Thread nD τ) O W)

/-- A copy's landing: the slot reads what was sent. -/
theorem slot_landed (c : Dev nD) (s : Fin 18) (X : Vec F S128x256 .bf16) (fd : Buf (Elt F) ((slotM s).view.loc (c : Thread nD τ))) :
    ((slotM s).view.loc (c : Thread nD τ) ↦[(slotM s).view.set]{fullShare}
        (slotM s).view.write (Elt F) fd ((accM : Memref sig .tc .vmem S128x256 .bf16).view.read (Elt F) X) Finset.univ : sProp 𝕄)
      ⊢ slotHolds c s X := by
  unfold slotHolds
  iintro H
  iexists ((slotM s).view.write (Elt F) fd ((accM : Memref sig .tc .vmem S128x256 .bf16).view.read (Elt F) X) Finset.univ)
  isplitr
  · ipureintro
    rw [View.read_write_univ]
    exact View.read_whole cc0_scratch0 X
  iexact H

set_option maxHeartbeats 800000 in
/-- Sending the running sum to slot `s` of the slot's peer. -/
theorem runs_send (I : Dev nD → In F) (K : Names) (c : Dev nD) (s : Fin 18) :
    iprop(records I K ∗ slotOwn c s ∗ slotAny (peer (dir s.val) c) s ∗ accPts c (part (s.val % 3)) (acc I (s.val / 3) c)
        ∗ owesAny c (owedSlots s.val c))
      ⊢ runs c (send (F := F) s (peer (dir s.val) c)) (fun _ => iprop(slotSent c s ∗ owesAny c (owedSlots (s.val + 1) c))) := by
  unfold slotOwn slotAny accPts send Prog.lift owesAny
  iintro ⟨#HR, ⟨HaS, HaV, HtS, HtV, HcV⟩, ⟨%fd, Hd⟩, Hs, ⟨%W, HO⟩⟩
  iapply (Rounds.wp_send_pointsTo 𝒱₀ ER (sched I) (c : Thread nD τ) none (κ₁ := K.snd (c, s)) (κ₂ := K.rcv (peer (dir s.val) c, s))
    (r₁ := 0) (r₂ := 0) (d₁ := 0) (d₂ := 0) (fd := fd)
    (by rw [duties_send]; exact Finset.mem_singleton_self _) (by rw [duties_recv]; exact Finset.mem_singleton_self _)
    () () N rfl (amount_send I c s 0) (amount_recv I (peer (dir s.val) c) s 0) (owedSlots (s.val + 1) c) (owedSlots_peel s c) (W := W)
    (by rw [payload_send]; exact BI.Entails.refl _)
    (by rw [payload_recv]; unfold recvPay; rw [peer_peer]; exact slot_landed _ _ _ _)) $$ [Hs Hd HO HtS HtV]
  · isplitr; · iapply (inv_send I K c s); iexact HR
    isplitr; · iapply (inv_recv I K (peer (dir s.val) c) s); iexact HR
    isplitl [Hs]; · iexact Hs
    isplitl [Hd]; · iexact Hd
    isplitl [HO]; · iexact HO
    isplitl [HtS]; · iexact HtS
    isplitr; · iapply (reached_send I K c s); iexact HR
    isplitl [HtV]; · iexact HtV
    iapply (reached_recv I K (peer (dir s.val) c) s); iexact HR
  iintro ⟨HcS, HO⟩
  rw [wp_ret]; imodintro
  unfold slotSent
  isplitr [HO]
  · isplitl [HaS]; · iexact HaS
    isplitl [HaV]; · iexact HaV
    isplitl [HcS] <;> iassumption
  iexists W; iexact HO

omit [FloatOps F] in
/-- Reading slot `s` of the receive buffer touches the slot only. -/
theorem slot_load_set (s : Fin 18) :
    (recvM : Memref sig .tc .vmem S18x128x256 .bf16).view.setOn (slotR s).toLoadRect.set ⊆ (slotM s).view.set := by
  rw [show (slotM s).view.set = ((recvM : Memref sig .tc .vmem S18x128x256 .bf16).view.slice (slotR s)).set from View.set_reshape _ _, View.set_slice]
  exact Finset.Subset.refl _

set_option maxHeartbeats 800000 in
/-- Waiting for slot `s`'s copy to be sent and its block to be received, and reading the block: both cells are closed, the
    sent share is back, and the value read is the peer's running sum. -/
theorem runs_receive (I : Dev nD → In F) (K : Names) (c : Dev nD) (s : Fin 18) (k : ℕ) (hk : s.val / 3 = k) :
    iprop(levAts L lv ∗ records I K ∗ slotSent c s ∗ owesAny c (owedSlots (3 * (k + 1)) c))
      ⊢ runs c (receive (F := F) s) (fun v => iprop(⌜v = shapeCast S1x128x256 (acc I k (peer (dir s.val) c)) rfl⌝
          ∗ slotDone c s ∗ accPts c (part (s.val % 3)) (acc I k c) ∗ owesAny c (owedSlots (3 * (k + 1)) c))) := by
  subst hk
  unfold slotSent receive owesAny
  simp only [Prog.lift, Prog.bind_op, Prog.bind_ret, Prog.pure_eq_ret]
  iintro ⟨#Hlev, #HR, ⟨HaS, HaV, HcS, HcV⟩, ⟨%W, HO⟩⟩
  iapply (Rounds.wp_wait_rest_token 𝒱₀ ER (sched I) (c : Thread nD τ) none (κ := K.snd (c, s))
      (wpE_waitDma2_eq 𝒱₀ (c : Thread nD τ) none Set.univ) (Set.mem_univ _) () (O := owedSlots (3 * (s.val / 3 + 1)) c) (W := W) (R := 0) (m := 0) (T := ∅)
      (by rw [Nat.zero_add, expect_send])) $$ [HcS HO HaS]
  · isplitr; · iapply (inv_send I K c s); iexact HR
    isplitl [HcS]; · iexact HcS
    isplitl [HO]; · iexact HO
    isplitr
    · iapply (mayWait_slots (F := F) c (.dma (sendS s)) (s.val / 3 + 1) (by rw [lv_send]; omega)); iexact Hlev
    iexact HaS
  iintro ⟨HO, HaS, -, Hpay⟩
  ihave Hs := (Entails.of_eq (rest_send I c s)) $$ Hpay
  iapply (Rounds.wp_wait_rest_token 𝒱₀ ER (sched I) (c : Thread nD τ) none (κ := K.rcv (c, s))
      (wpE_waitDma2_eq 𝒱₀ (c : Thread nD τ) none Set.univ) (Set.mem_univ _) () (O := owedSlots (3 * (s.val / 3 + 1)) c) (W := _) (R := 0) (m := 0) (T := ∅)
      (by rw [Nat.zero_add, expect_recv])) $$ [HcV HO HaV]
  · isplitr; · iapply (inv_recv I K c s); iexact HR
    isplitl [HcV]; · iexact HcV
    isplitl [HO]; · iexact HO
    isplitr
    · iapply (mayWait_slots (F := F) c (.dma (recvS s)) (s.val / 3 + 1) (by rw [lv_recv]; omega)); iexact Hlev
    iexact HaV
  iintro ⟨HO, HaV, -, Hpay⟩
  ihave Hv := (Entails.of_eq (rest_recv I c s)) $$ Hpay
  imod (Rounds.cell_close ER (sched I) (Set.mem_univ (K.snd (c, s))) (fun h => h) (R := 0 + 1) (duties_later I (sendCell c s))) $$ [HaS] with HzS
  · isplitr; · iapply (inv_send I K c s); iexact HR
    iexact HaS
  imod (Rounds.cell_close ER (sched I) (Set.mem_univ (K.rcv (c, s))) (fun h => h) (R := 0 + 1) (duties_later I (recvCell c s))) $$ [HaV] with HzV
  · isplitr; · iapply (inv_recv I K c s); iexact HR
    iexact HaV
  unfold recvPay slotHolds
  icases Hv with ⟨%f, %hf, Hv⟩
  iapply (wp_load 𝒱₀ (c : Thread nD τ) none Set.univ (m := recvM) (slot_load_set s)) $$ Hv; iintro Hv
  rw [wp_ret]; imodintro
  isplitr
  · ipureintro
    rw [← hf]
    exact (shapeCast_shapeCast _ shapeCasts_S1x128x256_S128x256 _).symm
  isplitl [HzS HzV Hv]
  · unfold slotDone slotAny
    isplitl [HzS]; · iexact HzS
    isplitl [HzV]; · iexact HzV
    iexists f; iexact Hv
  isplitl [Hs]; · unfold sendPay; iexact Hs
  iexists _; iexact HO

/-! ## The running sum's buffer -/

omit [FloatOps F] in
/-- The pair of zeros is the zero offset. -/
theorem zeros₂ : (![0, 0] : Fin 2 → Nat) = fun _ => 0 := funext fun a => by fin_cases a <;> rfl

omit [FloatOps F] in
/-- The running sum whole is its left half and the three parts a round sends. -/
theorem accPts_split (c : Dev nD) (X : Vec F S128x256 .bf16) :
    (accPts c fullShare X : sProp 𝕄)
      ⊣⊢ iprop(accPts c fullShare.left X ∗ accPts c (part 0) X ∗ accPts c (part 1) X ∗ accPts c (part 2) X) := by
  have cut (q : PosShare TreeShare) : (accPts c q X : sProp 𝕄) ⊣⊢ iprop(accPts c q.left X ∗ accPts c q.right X) :=
    pointsTo_share (PosShare.mem_left_op_right q)
  constructor
  · iintro H
    ihave H := (cut fullShare).1 $$ H
    icases H with ⟨H0, H⟩
    ihave H := (cut fullShare.right).1 $$ H
    icases H with ⟨H1, H⟩
    ihave H := (cut fullShare.right.right).1 $$ H
    icases H with ⟨H2, H3⟩
    isplitl [H0]; · iexact H0
    isplitl [H1]; · iexact H1
    isplitl [H2]; · iexact H2
    iexact H3
  · iintro ⟨H0, H1, H2, H3⟩
    iapply (cut fullShare).2
    isplitl [H0]; · iexact H0
    iapply (cut fullShare.right).2
    isplitl [H1]; · iexact H1
    iapply (cut fullShare.right.right).2
    isplitl [H2]; · iexact H2
    iexact H3

/-- Loading the running sum at any share. -/
theorem runs_loadAcc (c : Dev nD) (q : PosShare TreeShare) (X : Vec F S128x256 .bf16) :
    (accPts c q X : sProp 𝕄) ⊢ runs c (loadAcc (F := F)) (fun v => iprop(⌜v = X⌝ ∗ accPts c q X)) := by
  unfold loadAcc Prog.lift accPts
  iintro H
  iapply (wp_load 𝒱₀ (c : Thread nD τ) none Set.univ (m := accM) (View.setOn_subset_set _ _)) $$ H; iintro H
  rw [wp_ret]; imodintro
  isplitr
  · ipureintro; exact Memref.readAt_unit_zero (Elt F) cc0_scratch0 zeros₂ _ X
  iexact H

/-- Storing a new running sum. -/
theorem runs_storeAcc (c : Dev nD) (X : Vec F S128x256 .bf16) (v : FVec F S128x256 .bf16) :
    (accPts c fullShare X : sProp 𝕄) ⊢ runs c (storeAcc v) (fun _ => accPts c fullShare v) := by
  have hw : ((accM : Memref sig .tc .vmem S128x256 .bf16).access accR : View sig .tc _ _ _).write (Elt F) X v Finset.univ = v :=
    Memref.write_access_unit_zero_univ (Elt F) cc0_scratch0 zeros₂ _ X v
  unfold storeAcc Prog.lift accPts
  iintro H
  iapply (wp_store 𝒱₀ (c : Thread nD τ) none Set.univ (m := accM) (r := accR) (Mk := Finset.univ)
    ((View.setOn_subset_set _ _).trans (View.set_slice_subset _ _))) $$ H; iintro H
  rw [wp_ret, hw]; imodintro
  iexact H

/-! ## One round -/

/-- What a device needs for slot `s` once its peer's slot is its own to copy into. -/
def slotReady (c : Dev nD) (s : Fin 18) : sProp 𝕄 := iprop(slotOwn c s ∗ slotAny (peer (dir s.val) c) s)

set_option maxHeartbeats 1600000 in
/-- Round `k` over its three slots: the running sum becomes the round's sum over the device and its three peers. -/
theorem runs_exchange (I : Dev nD → In F) (K : Names) (c : Dev nD) (k : ℕ) (s₀ s₁ s₂ : Fin 18)
    (h₀ : s₀.val = 3 * k) (h₁ : s₁.val = 3 * k + 1) (h₂ : s₂.val = 3 * k + 2) :
    iprop(levAts L lv ∗ records I K ∗ slotReady c s₀ ∗ slotReady c s₁ ∗ slotReady c s₂ ∗ accPts c fullShare (acc I k c)
        ∗ owesAny c (owedSlots (3 * k) c))
      ⊢ runs c (exchange (F := F) s₀ s₁ s₂ (peer (dir s₀.val) c) (peer (dir s₁.val) c) (peer (dir s₂.val) c))
          (fun _ => iprop((slotDone c s₀ ∗ slotDone c s₁ ∗ slotDone c s₂) ∗ accPts c fullShare (roundSum (3 * k) (acc I k) c)
            ∗ owesAny c (owedSlots (3 * (k + 1)) c))) := by
  unfold exchange slotReady
  simp only [wp_bind]
  have d₀ : s₀.val / 3 = k := by omega
  have d₁ : s₁.val / 3 = k := by omega
  have d₂ : s₂.val / 3 = k := by omega
  have S₀ := runs_send I K c s₀
  have S₁ := runs_send I K c s₁
  have S₂ := runs_send I K c s₂
  have R₀ := runs_receive I K c s₀ k d₀
  have R₁ := runs_receive I K c s₁ k d₁
  have R₂ := runs_receive I K c s₂ k d₂
  have m₀ : s₀.val % 3 = 0 := by omega
  have m₁ : s₁.val % 3 = 1 := by omega
  have m₂ : s₂.val % 3 = 2 := by omega
  rw [d₀, m₀] at S₀; rw [d₁, m₁] at S₁; rw [d₂, m₂] at S₂
  rw [m₀] at R₀; rw [m₁] at R₁; rw [m₂] at R₂
  iintro ⟨#Hlev, #HR, ⟨Ho0, Hp0⟩, ⟨Ho1, Hp1⟩, ⟨Ho2, Hp2⟩, Hacc, HO⟩
  ihave Hs := (accPts_split c (acc I k c)).1 $$ Hacc
  icases Hs with ⟨Hl, Ha0, Ha1, Ha2⟩
  iapply (runs_then S₀) $$ [Ho0 Hp0 Ha0 HO]
  · isplitr; · iexact HR
    isplitl [Ho0]; · iexact Ho0
    isplitl [Hp0]; · iexact Hp0
    isplitl [Ha0]; · iexact Ha0
    rw [h₀]; iexact HO
  iintro %_ ⟨Hs0, HO⟩
  iapply (runs_then S₁) $$ [Ho1 Hp1 Ha1 HO]
  · isplitr; · iexact HR
    isplitl [Ho1]; · iexact Ho1
    isplitl [Hp1]; · iexact Hp1
    isplitl [Ha1]; · iexact Ha1
    rw [h₁, ← h₀]; iexact HO
  iintro %_ ⟨Hs1, HO⟩
  iapply (runs_then S₂) $$ [Ho2 Hp2 Ha2 HO]
  · isplitr; · iexact HR
    isplitl [Ho2]; · iexact Ho2
    isplitl [Hp2]; · iexact Hp2
    isplitl [Ha2]; · iexact Ha2
    rw [h₂, show 3 * k + 2 = s₁.val + 1 by omega]; iexact HO
  iintro %_ ⟨Hs2, HO⟩
  rw [show s₂.val + 1 = 3 * (k + 1) by omega]
  iapply (runs_then (runs_loadAcc c fullShare.left (acc I k c))) $$ Hl
  iintro %a ⟨%ha, Hl⟩
  subst ha
  iapply (runs_then R₀) $$ [Hs0 HO]
  · isplitr; · iexact Hlev
    isplitr; · iexact HR
    isplitl [Hs0] <;> iassumption
  iintro %x ⟨%hx, Hd0, Ha0, HO⟩
  iapply (runs_then R₁) $$ [Hs1 HO]
  · isplitr; · iexact Hlev
    isplitr; · iexact HR
    isplitl [Hs1] <;> iassumption
  iintro %y ⟨%hy, Hd1, Ha1, HO⟩
  iapply (runs_then R₂) $$ [Hs2 HO]
  · isplitr; · iexact Hlev
    isplitr; · iexact HR
    isplitl [Hs2] <;> iassumption
  iintro %z ⟨%hz, Hd2, Ha2, HO⟩
  ihave Hacc := (accPts_split c (acc I k c)).2 $$ [Hl Ha0 Ha1 Ha2]
  · isplitl [Hl]; · iexact Hl
    isplitl [Ha0]; · iexact Ha0
    isplitl [Ha1] <;> iassumption
  iapply (runs_then (runs_loadAcc c fullShare (acc I k c))) $$ Hacc
  iintro %_ ⟨-, Hacc⟩
  iapply (runs_then (runs_storeAcc c (acc I k c) _)) $$ Hacc
  iintro %_ Hacc
  isplitl [Hd0 Hd1 Hd2]
  · isplitl [Hd0]; · iexact Hd0
    isplitl [Hd1] <;> iassumption
  isplitl [Hacc]
  · subst hx hy hz
    rw [h₀, h₁, h₂]
    iexact Hacc
  iexact HO

end Cert.MlpProof

end
-- ==== Proof.Body.lean ====
/-
# The whole body

The entry handshake, the layers' products around the exchange rounds, and the result: what one device's body needs,
and what it leaves.
-/
module

public import proofs.«01_k».proof.Proof.Round

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots by peer and layer -/

/-- Slots are peers and layers. -/
def slotEquiv : Fin 6 × Fin 3 ≃ Fin 18 where
  toFun x := slotAt x.1 x.2
  invFun s := (dir s.val, ⟨s.val / 6, by have := s.isLt; omega⟩)
  left_inv := by decide
  right_inv := by decide

/-- Direction `d` of layer `l` is the direction of its slot. -/
theorem dir_slotAt (d : Fin 6) (l : Fin 3) : dir (slotAt d l).val = d := by revert d l; decide

omit [FloatOps F] in
/-- A product over the slots, peer by peer. -/
theorem slots_by_peer (Φ : Fin 18 → sProp 𝕄) :
    bigSep Finset.univ Φ = bigSep Finset.univ fun d : Fin 6 => bigSep Finset.univ fun l : Fin 3 => Φ (slotAt d l) := by
  rw [bigSep_univ_equiv slotEquiv Φ, ← bigSep_univ_prod (fun x : Fin 6 × Fin 3 => Φ (slotAt x.1 x.2))]
  rfl

omit [FloatOps F] in
/-- A conjunction over the six directions, written out. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- A conjunction over the three layers, written out. -/
theorem three (Φ : Fin 3 → sProp 𝕄) : bigSep Finset.univ Φ = iprop(Φ 0 ∗ Φ 1 ∗ Φ 2) :=
  bigSep_univ_eq_bigSepL [0, 1, 2] (by decide) (by decide) Φ

/-- Round `k`'s three slots. -/
def slotIn (k : Fin 6) (j : Fin 3) : Fin 18 := ⟨3 * k.val + j.val, by have := k.isLt; have := j.isLt; omega⟩
/-- Slots are rounds and places in the round. -/
def roundEquiv : Fin 6 × Fin 3 ≃ Fin 18 where
  toFun x := slotIn x.1 x.2
  invFun s := (⟨s.val / 3, by have := s.isLt; omega⟩, ⟨s.val % 3, by omega⟩)
  left_inv := by decide
  right_inv := by decide

/-- A round's three pieces. -/
def ofRound (Φ : Fin 18 → sProp 𝕄) (s₀ s₁ s₂ : Fin 18) : sProp 𝕄 := iprop(Φ s₀ ∗ Φ s₁ ∗ Φ s₂)

omit [FloatOps F] in
/-- A product over the slots, round by round. -/
theorem slots_by_round (Φ : Fin 18 → sProp 𝕄) :
    bigSep Finset.univ Φ = iprop(ofRound Φ 0 1 2 ∗ ofRound Φ 3 4 5 ∗ ofRound Φ 6 7 8 ∗ ofRound Φ 9 10 11 ∗ ofRound Φ 12 13 14 ∗ ofRound Φ 15 16 17) := by
  rw [bigSep_univ_equiv roundEquiv Φ]
  refine (bigSep_univ_prod (fun x : Fin 6 × Fin 3 => Φ (slotIn x.1 x.2))).trans ?_
  rw [six]
  simp only [three]
  rfl

/-! ## The handshake -/

/-- What the signal to peer `d` hands over: the duty's token and the slots peer `d` copies into. -/
def signalRes (c : Dev nD) (d : Fin 6) : sProp 𝕄 :=
  iprop(dutyTok ER (barCell (peer d c)) 0 d ∗ bigSep Finset.univ fun l : Fin 3 => slotAny c (slotAt d l))

/-- The signal to peer `d`. -/
theorem runs_signal (I : Dev nD → In F) (K : Names) (c : Dev nD) (d : Fin 6) (n n' : ℕ) (hn : d.val = n) (hn' : d.val + 1 = n') :
    iprop(records I K ∗ signalRes c d ∗ owesAny c (owedBar n c))
      ⊢ runs c (semSignalWord (peer d c) barS 1#32) (fun _ => owesAny c (owedBar n' c)) := by
  subst hn hn'
  unfold signalRes owesAny
  simp only [semSignalWord, Prog.lift]
  iintro ⟨#HR, ⟨Ht, Hs⟩, ⟨%W, HO⟩⟩
  iapply (Rounds.wp_signal 𝒱₀ ER (sched I) (c : Thread nD τ) none (dst := (peer d c : Thread nD τ)) (κ := K.bar (peer d c))
      (d := d) (by rw [duties_bar]; exact Finset.mem_univ _) ((amount_bar I (peer d c) d).trans (by decide)) () (owedBar (d.val + 1) c) (owedBar_peel d c))
    $$ [HO Ht Hs]
  · isplitr; · iapply (inv_bar I K (peer d c)); iexact HR
    isplitl [HO]; · iexact HO
    isplitl [Ht]; · iexact Ht
    isplitl [Hs]
    · rw [payload_bar]; unfold barPay; rw [peer_peer]; iexact Hs
    iapply (reached_bar I K (peer d c)); iexact HR
  iintro HO
  rw [wp_ret]; imodintro
  iexists W; iexact HO

/-- The wait for the six peers: every peer's slots are the device's own to copy into. -/
theorem runs_entry_wait (I : Dev nD → In F) (K : Names) (c : Dev nD) :
    iprop(levAts L lv ∗ records I K ∗ atPos ER (barCell c) 0 ∅ 0 ∗ cred (tallyAt (barCell c) () 6) ∗ owesAny c (owedSlots 0 c))
      ⊢ runs c (semWaitWord barS 6#32) (fun _ => iprop(semVal (barCell c) 0 ∗ (bigSep Finset.univ fun s : Fin 18 => slotAny (peer (dir s.val) c) s)
          ∗ owesAny c (owedSlots 0 c))) := by
  unfold owesAny
  simp only [semWaitWord, Prog.lift]
  iintro ⟨#Hlev, #HR, Hat, Hc, ⟨%W, HO⟩⟩
  iapply (Rounds.wp_wait_rest_token 𝒱₀ ER (sched I) (c : Thread nD τ) none (κ := K.bar c)
      (wpE_semWait_eq 𝒱₀ (c : Thread nD τ) none Set.univ) (Set.mem_univ _) () (O := owedSlots 0 c) (W := W) (R := 0) (m := 0) (T := ∅)
      (by rw [expect_bar]; decide)) $$ [Hc HO Hat]
  · isplitr; · iapply (inv_bar I K c); iexact HR
    isplitl [Hc]; · iexact Hc
    isplitl [HO]; · iexact HO
    isplitr
    · iapply (mayWait_slots (F := F) c (.reg barS) 0 (by rw [lv_bar]; omega)); iexact Hlev
    iexact Hat
  iintro ⟨HO, Hat, -, Hpay⟩
  ihave Hp := (Entails.of_eq (rest_bar I c)) $$ Hpay
  imod (Rounds.cell_close ER (sched I) (Set.mem_univ (K.bar c)) (fun h => h) (R := 0 + 1) (duties_later I (barCell c))) $$ [Hat] with Hz
  · isplitr; · iapply (inv_bar I K c); iexact HR
    iexact Hat
  rw [wp_ret]; imodintro
  isplitl [Hz]; · iexact Hz
  isplitl [Hp]
  · rw [slots_by_peer]
    simp only [dir_slotAt]
    unfold barPay
    iexact Hp
  iexists _; iexact HO

/-- The entry handshake: every slot of the device is given up, every peer's slot for it is received. -/
theorem runs_handshake (I : Dev nD → In F) (K : Names) (c : Dev nD) :
    iprop(levAts L lv ∗ records I K ∗ (bigSep Finset.univ fun d : Fin 6 => dutyTok ER (barCell (peer d c)) 0 d)
        ∗ (bigSep Finset.univ fun s : Fin 18 => slotAny c s)
        ∗ atPos ER (barCell c) 0 ∅ 0 ∗ cred (tallyAt (barCell c) () 6) ∗ owesAny c (owedBar 0 c))
      ⊢ runs c (handshake (F := F) c) (fun _ => iprop(semVal (barCell c) 0 ∗ (bigSep Finset.univ fun s : Fin 18 => slotAny (peer (dir s.val) c) s)
          ∗ owesAny c (owedSlots 0 c))) := by
  obtain ⟨e1, e2, e3, e4, e5, e6⟩ := signal_devs c
  unfold handshake
  rw [e1, e2, e3, e4, e5, e6]
  simp only [wp_bind]
  iintro ⟨#Hlev, #HR, Ht, Hs, Hat, Hc, HO⟩
  ihave Hs := (Entails.of_eq (slots_by_peer fun s => slotAny c s)) $$ Hs
  ihave Hts := (Entails.of_eq (((bigSep_sep' Finset.univ (fun d : Fin 6 => (dutyTok ER (barCell (peer d c)) 0 d : sProp 𝕄))
    fun d : Fin 6 => bigSep Finset.univ fun l : Fin 3 => slotAny c (slotAt d l)).symm).trans (six fun d => signalRes c d))) $$ [Ht Hs]
  · isplitl [Ht] <;> iassumption
  icases Hts with ⟨H0, H1, H2, H3, H4, H5⟩
  iapply (runs_then (runs_signal I K c 0 0 1 rfl rfl)) $$ [H0 HO]
  · isplitr; · iexact HR
    isplitl [H0] <;> iassumption
  iintro %_ HO
  iapply (runs_then (runs_signal I K c 1 1 2 rfl rfl)) $$ [H1 HO]
  · isplitr; · iexact HR
    isplitl [H1] <;> iassumption
  iintro %_ HO
  iapply (runs_then (runs_signal I K c 2 2 3 rfl rfl)) $$ [H2 HO]
  · isplitr; · iexact HR
    isplitl [H2] <;> iassumption
  iintro %_ HO
  iapply (runs_then (runs_signal I K c 3 3 4 rfl rfl)) $$ [H3 HO]
  · isplitr; · iexact HR
    isplitl [H3] <;> iassumption
  iintro %_ HO
  iapply (runs_then (runs_signal I K c 4 4 5 rfl rfl)) $$ [H4 HO]
  · isplitr; · iexact HR
    isplitl [H4] <;> iassumption
  iintro %_ HO
  iapply (runs_then (runs_signal I K c 5 5 6 rfl rfl)) $$ [H5 HO]
  · isplitr; · iexact HR
    isplitl [H5] <;> iassumption
  iintro %_ HO
  ihave HO := (Entails.of_eq (congrArg (owesAny (F := F) c) (owedBar_end c))) $$ HO
  iapply (runs_entry_wait I K c)
  isplitr; · iexact Hlev
  isplitr; · iexact HR
  isplitl [Hat]; · iexact Hat
  isplitl [Hc] <;> iassumption

/-! ## The products -/

/-- The buffer behind the memref `M` held whole at the contents `f`. -/
abbrev held {cs : CoreSpace} {s : Shape} {e : EltTy} (c : Dev nD) (M : Memref sig .tc cs s e) (f : Buf (Elt F) (M.view.loc (c : Thread nD τ))) : sProp 𝕄 :=
  M.view.loc (c : Thread nD τ) ↦[M.view.set]{fullShare} f

/-- Loading through a held memref. -/
theorem runs_load {cs : CoreSpace} {s : Shape} {e : EltTy} (c : Dev nD) (M : Memref sig .tc cs s e) (r : LoadRect s) (hl : M.view.LoadsAt r)
    (f : Buf (Elt F) (M.view.loc (c : Thread nD τ))) :
    (held c M f : sProp 𝕄) ⊢ runs c (Prog.lift (.load M r hl) : TcProg F _) (fun v => iprop(⌜v = M.view.readAt (Elt F) r f⌝ ∗ held c M f)) := by
  unfold Prog.lift
  iintro H
  iapply (wp_load 𝒱₀ (c : Thread nD τ) none Set.univ (m := M) (View.setOn_subset_set _ _)) $$ H; iintro H
  rw [wp_ret]; imodintro
  isplitr
  · ipureintro; rfl
  iexact H

/-- The rectangle of a whole output weight block. -/
abbrev outR : Rect S256x128 := Rect.unit (s := S256x128) ![0, 0] S256x128.size inb_S256x128_S256x128_0_0
/-- The rectangle of a whole block of the input or the result. -/
abbrev ioR : Rect S128x128 := Rect.unit (s := S128x128) ![0, 0] S128x128.size inb_S128x128_S128x128_0_0

/-- From one layer's sum to the next layer's first product. -/
theorem runs_relayer (c : Dev nD) (Mo : Memref sig .tc .vmem S256x128 .bf16) (Mi : Memref sig .tc .vmem S128x256 .bf16)
    (fo : Buf (Elt F) (Mo.view.loc (c : Thread nD τ))) (fi : Buf (Elt F) (Mi.view.loc (c : Thread nD τ))) (X : Vec F S128x256 .bf16) :
    (iprop(accPts c fullShare X ∗ held c Mo fo ∗ held c Mi fi) : sProp 𝕄)
      ⊢ runs c (relayer (F := F) Mo Mi) (fun _ => iprop(accPts c fullShare (next X (Mo.view.readAt (Elt F) outR.toLoadRect fo) (Mi.view.readAt (Elt F) accR.toLoadRect fi))
          ∗ held c Mo fo ∗ held c Mi fi)) := by
  unfold relayer loadOut loadIn
  simp only [wp_bind]
  iintro ⟨Ha, Ho, Hi⟩
  iapply (runs_then (runs_loadAcc c fullShare X)) $$ Ha
  iintro %a ⟨%ha, Ha⟩
  iapply (runs_then (runs_load c Mo outR.toLoadRect _ fo)) $$ Ho
  iintro %o ⟨%ho, Ho⟩
  iapply (runs_then (runs_load c Mi accR.toLoadRect _ fi)) $$ Hi
  iintro %i ⟨%hi, Hi⟩
  iapply (runs_then (runs_loadAcc c fullShare X)) $$ Ha
  iintro %_ ⟨-, Ha⟩
  subst ha ho hi
  iapply (runs_then (runs_storeAcc c a _)) $$ Ha
  iintro %_ Ha
  isplitl [Ha]; · iexact Ha
  isplitl [Ho] <;> iassumption

/-- The staged input; the six staged weights, layer by layer; the staged result. -/
abbrev xM : Memref sig .tc .vmem S128x128 .bf16 := Memref.whole cc0_stg0_0
abbrev wi₀M : Memref sig .tc .vmem S128x256 .bf16 := Memref.whole cc0_stg1_0
abbrev wo₀M : Memref sig .tc .vmem S256x128 .bf16 := Memref.whole cc0_stg2_0
abbrev wi₁M : Memref sig .tc .vmem S128x256 .bf16 := Memref.whole cc0_stg3_0
abbrev wo₁M : Memref sig .tc .vmem S256x128 .bf16 := Memref.whole cc0_stg4_0
abbrev wi₂M : Memref sig .tc .vmem S128x256 .bf16 := Memref.whole cc0_stg5_0
abbrev wo₂M : Memref sig .tc .vmem S256x128 .bf16 := Memref.whole cc0_stg6_0
abbrev outM : Memref sig .tc .vmem S128x128 .f32 := Memref.whole cc0_stg7_0

/-- The first product. -/
theorem runs_begin (I : Dev nD → In F) (c : Dev nD) (X : Vec F S128x256 .bf16) :
    (iprop(accPts c fullShare X ∗ held c xM (I c).x ∗ held c wi₀M ((I c).wi 0)) : sProp 𝕄)
      ⊢ runs c (begin₀ (F := F)) (fun _ => iprop(accPts c fullShare (acc I 0 c) ∗ held c xM (I c).x ∗ held c wi₀M ((I c).wi 0))) := by
  unfold begin₀ loadIn
  simp only [wp_bind]
  iintro ⟨Ha, Hx, Hw⟩
  iapply (runs_then (runs_load c xM ioR.toLoadRect _ (I c).x)) $$ Hx
  iintro %x ⟨%hx, Hx⟩
  iapply (runs_then (runs_load c wi₀M accR.toLoadRect _ ((I c).wi 0))) $$ Hw
  iintro %w ⟨%hw, Hw⟩
  iapply (runs_then (runs_loadAcc c fullShare X)) $$ Ha
  iintro %_ ⟨-, Ha⟩
  iapply (runs_then (runs_storeAcc c X _)) $$ Ha
  iintro %_ Ha
  have ex : x = (I c).x := hx.trans (Memref.readAt_unit_zero (Elt F) cc0_stg0_0 zeros₂ _ _)
  have ew : w = (I c).wi 0 := hw.trans (Memref.readAt_unit_zero (Elt F) cc0_stg1_0 zeros₂ _ _)
  rw [ex, ew]
  isplitl [Ha]; · iexact Ha
  isplitl [Hx] <;> iassumption

/-- The last product, stored as the result. -/
theorem runs_finish (I : Dev nD → In F) (c : Dev nD) (X : Vec F S128x256 .bf16) (f : Buf (Elt F) (outM.view.loc (c : Thread nD τ))) :
    (iprop(accPts c fullShare X ∗ held c wo₂M ((I c).wo 2) ∗ held c outM f) : sProp 𝕄)
      ⊢ runs c (finish (F := F)) (fun _ => iprop(accPts c fullShare X ∗ held c wo₂M ((I c).wo 2) ∗ held c outM (last X ((I c).wo 2)))) := by
  unfold finish loadOut
  simp only [wp_bind]
  iintro ⟨Ha, Hw, Ho⟩
  iapply (runs_then (runs_loadAcc c fullShare X)) $$ Ha
  iintro %a ⟨%ha, Ha⟩
  iapply (runs_then (runs_load c wo₂M outR.toLoadRect _ ((I c).wo 2))) $$ Hw
  iintro %w ⟨%hw, Hw⟩
  iapply (runs_then (runs_load c outM ioR.toLoadRect _ f)) $$ Ho
  iintro %_ ⟨-, Ho⟩
  have ew : w = (I c).wo 2 := hw.trans (Memref.readAt_unit_zero (Elt F) cc0_stg6_0 zeros₂ _ _)
  rw [ha, ew]
  have hst : ((outM : Memref sig .tc .vmem S128x128 .f32).access ioR : View sig .tc _ _ _).write (Elt F) f (last X ((I c).wo 2)) Finset.univ = last X ((I c).wo 2) :=
    Memref.write_access_unit_zero_univ (Elt F) cc0_stg7_0 zeros₂ _ f _
  unfold Prog.lift
  iapply (wp_store 𝒱₀ (c : Thread nD τ) none Set.univ (m := outM) (r := ioR) (Mk := Finset.univ)
    ((View.setOn_subset_set _ _).trans (View.set_slice_subset _ _))) $$ Ho; iintro Ho
  rw [wp_ret, hst]; imodintro
  isplitl [Ha]; · iexact Ha
  isplitl [Hw] <;> iassumption

/-! ## The body -/

/-- The running sum after a layer's first round. -/
theorem acc_even (I : Dev nD → In F) (k : ℕ) (c : Dev nD) (h : k % 2 = 0) : acc I (k + 1) c = roundSum (3 * k) (acc I k) c := if_pos h
/-- The running sum after a layer's second round and the step to the next layer. -/
theorem acc_odd (I : Dev nD → In F) (k : ℕ) (c : Dev nD) (h : k % 2 = 1) :
    acc I (k + 1) c = next (roundSum (3 * k) (acc I k) c) ((I c).wo (k / 2)) ((I c).wi (k / 2 + 1)) := if_neg (by omega)

/-- A device's inputs, staged. -/
def staged (I : Dev nD → In F) (c : Dev nD) : sProp 𝕄 :=
  iprop(held c xM (I c).x ∗ held c wi₀M ((I c).wi 0) ∗ held c wo₀M ((I c).wo 0) ∗ held c wi₁M ((I c).wi 1)
    ∗ held c wo₁M ((I c).wo 1) ∗ held c wi₂M ((I c).wi 2) ∗ held c wo₂M ((I c).wo 2))

/-- The protocol's state a device starts from, memory aside. -/
def ghost (I : Dev nD → In F) (K : Names) (c : Dev nD) : sProp 𝕄 :=
  iprop(records I K ∗ atPos ER (barCell c) 0 ∅ 0 ∗ (bigSep Finset.univ fun d : Fin 6 => dutyTok ER (barCell (peer d c)) 0 d)
    ∗ bigSep Finset.univ fun s : Fin 18 =>
        iprop(atPos ER (sendCell c s) 0 ∅ 0 ∗ atPos ER (recvCell c s) 0 ∅ 0
          ∗ dutyTok ER (sendCell c s) 0 0 ∗ dutyTok ER (recvCell (peer (dir s.val) c) s) 0 0))

omit [FloatOps F] in
/-- Every slot's own part, its credit and the peer's slot, put together slot by slot. -/
theorem slots_ready (c : Dev nD) :
    (iprop((bigSep Finset.univ fun s : Fin 18 =>
        iprop(atPos ER (sendCell c s) 0 ∅ 0 ∗ atPos ER (recvCell c s) 0 ∅ 0
          ∗ dutyTok ER (sendCell c s) 0 0 ∗ dutyTok ER (recvCell (peer (dir s.val) c) s) 0 0))
      ∗ (bigSep Finset.univ fun s : Fin 18 => cred (tallyAt (recvCell c s) () N))
      ∗ bigSep Finset.univ fun s : Fin 18 => slotAny (peer (dir s.val) c) s) : sProp 𝕄) ⊢ bigSep Finset.univ (slotReady c) := by
  have one (s : Fin 18) : (iprop((atPos ER (sendCell c s) 0 ∅ 0 ∗ atPos ER (recvCell c s) 0 ∅ 0
          ∗ dutyTok ER (sendCell c s) 0 0 ∗ dutyTok ER (recvCell (peer (dir s.val) c) s) 0 0)
        ∗ cred (tallyAt (recvCell c s) () N) ∗ slotAny (peer (dir s.val) c) s) : sProp 𝕄) ⊢ slotReady c s := by
    unfold slotReady slotOwn
    iintro ⟨⟨H1, H2, H3, H4⟩, H5, H6⟩
    isplitr [H6]
    · isplitl [H1]; · iexact H1
      isplitl [H2]; · iexact H2
      isplitl [H3]; · iexact H3
      isplitl [H4] <;> iassumption
    iexact H6
  rw [← bigSep_sep', ← bigSep_sep']
  exact bigSep_mono fun s _ => one s

/-- Round `k`, the slots' state bundled and the devices sent to named as they are. -/
theorem runs_round (I : Dev nD → In F) (K : Names) (c : Dev nD) (k n n' : ℕ) (s₀ s₁ s₂ : Fin 18) (p₀ p₁ p₂ : Dev nD)
    (h₀ : s₀.val = 3 * k) (h₁ : s₁.val = 3 * k + 1) (h₂ : s₂.val = 3 * k + 2)
    (hp₀ : p₀ = peer (dir s₀.val) c) (hp₁ : p₁ = peer (dir s₁.val) c) (hp₂ : p₂ = peer (dir s₂.val) c) (hn : 3 * k = n) (hn' : 3 * (k + 1) = n') :
    iprop(levAts L lv ∗ records I K ∗ ofRound (slotReady c) s₀ s₁ s₂ ∗ accPts c fullShare (acc I k c) ∗ owesAny c (owedSlots n c))
      ⊢ runs c (exchange (F := F) s₀ s₁ s₂ p₀ p₁ p₂)
          (fun _ => iprop(ofRound (slotDone c) s₀ s₁ s₂ ∗ accPts c fullShare (roundSum n (acc I k) c) ∗ owesAny c (owedSlots n' c))) := by
  subst hp₀ hp₁ hp₂ hn hn'
  unfold ofRound
  iintro ⟨Hl, HR, ⟨H0, H1, H2⟩, Ha, HO⟩
  iapply (runs_exchange I K c k s₀ s₁ s₂ h₀ h₁ h₂)
  isplitl [Hl]; · iexact Hl
  isplitl [HR]; · iexact HR
  isplitl [H0]; · iexact H0
  isplitl [H1]; · iexact H1
  isplitl [H2]; · iexact H2
  isplitl [Ha] <;> iassumption

set_option maxHeartbeats 4000000 in
/-- One device's body: from its staged inputs and its part of the protocol to its staged result, every semaphore back at zero. -/
theorem runs_body (I : Dev nD → In F) (K : Names) (c : Dev nD) (X : Vec F S128x256 .bf16) (f : Buf (Elt F) (outM.view.loc (c : Thread nD τ))) :
    iprop(levAts L lv ∗ ghost I K c ∗ cred (tallyAt (barCell c) () 6) ∗ (bigSep Finset.univ fun s : Fin 18 => cred (tallyAt (recvCell c s) () N))
        ∗ accPts c fullShare X ∗ (bigSep Finset.univ fun s : Fin 18 => slotAny c s) ∗ owesAny c (owedBar 0 c) ∗ staged I c ∗ held c outM f)
      ⊢ runs c (bodyP (F := F)) (fun _ => iprop((∃ Y, accPts c fullShare Y) ∗ semVal (barCell c) 0 ∗ (bigSep Finset.univ fun s : Fin 18 => slotDone c s)
          ∗ owesAny c 0 ∗ staged I c ∗ held c outM (result I c))) := by
  obtain ⟨a7, a8, a9, a10, a11, a12⟩ := send_devs₁ c
  obtain ⟨a13, a14, a15, a16, a17, a18⟩ := send_devs₂ c
  obtain ⟨a19, a20, a21, a22, a23, a24⟩ := send_devs₃ c
  unfold bodyP
  simp only [wp_bind, Prog.lift, wp_deviceId, wp_ret]
  rw [a7, a8, a9, a10, a11, a12, a13, a14, a15, a16, a17, a18, a19, a20, a21, a22, a23, a24]
  unfold ghost staged
  iintro ⟨#Hlev, ⟨#HR, HaB, HtB, Hown⟩, HcB, HcV, Hacc, Hslots, HO, ⟨Hx, Hi0, Ho0, Hi1, Ho1, Hi2, Ho2⟩, Hout⟩
  imodintro
  iapply (runs_then (runs_handshake I K c)) $$ [HtB Hslots HaB HcB HO]
  · isplitr; · iexact Hlev
    isplitr; · iexact HR
    isplitl [HtB]; · iexact HtB
    isplitl [Hslots]; · iexact Hslots
    isplitl [HaB]; · iexact HaB
    isplitl [HcB] <;> iassumption
  iintro %_ ⟨HzB, Hpeers, HO⟩
  ihave Hready := (slots_ready c) $$ [Hown HcV Hpeers]
  · isplitl [Hown]; · iexact Hown
    isplitl [HcV] <;> iassumption
  ihave Hready := (Entails.of_eq (slots_by_round (slotReady c))) $$ Hready
  icases Hready with ⟨Hr0, Hr1, Hr2, Hr3, Hr4, Hr5⟩
  iapply (runs_then (runs_begin I c X)) $$ [Hacc Hx Hi0]
  · isplitl [Hacc]; · iexact Hacc
    isplitl [Hx] <;> iassumption
  iintro %_ ⟨Hacc, Hx, Hi0⟩
  iapply (runs_then (runs_round I K c 0 0 3 0 1 2 (peer 0 c) (peer 1 c) (peer 2 c) rfl rfl rfl rfl rfl rfl rfl rfl)) $$ [Hr0 Hacc HO]
  · isplitr; · iexact Hlev
    isplitr; · iexact HR
    isplitl [Hr0]; · iexact Hr0
    isplitl [Hacc] <;> iassumption
  iintro %_ ⟨Hd0, Hacc, HO⟩
  ihave Hacc := (Entails.of_eq (congrArg (accPts (F := F) c fullShare) (acc_even I 0 c rfl).symm)) $$ Hacc
  iapply (runs_then (runs_round I K c 1 3 6 3 4 5 (peer 3 c) (peer 4 c) (peer 5 c) rfl rfl rfl rfl rfl rfl rfl rfl)) $$ [Hr1 Hacc HO]
  · isplitr; · iexact Hlev
    isplitr; · iexact HR
    isplitl [Hr1]; · iexact Hr1
    isplitl [Hacc] <;> iassumption
  iintro %_ ⟨Hd1, Hacc, HO⟩
  iapply (runs_then (runs_relayer c wo₀M wi₁M ((I c).wo 0) ((I c).wi 1) _)) $$ [Hacc Ho0 Hi1]
  · isplitl [Hacc]; · iexact Hacc
    isplitl [Ho0] <;> iassumption
  iintro %_ ⟨Hacc, Ho0, Hi1⟩
  rw [show wo₀M.view.readAt (Elt F) outR.toLoadRect ((I c).wo 0) = (I c).wo 0 from Memref.readAt_unit_zero (Elt F) cc0_stg2_0 zeros₂ _ _,
    show wi₁M.view.readAt (Elt F) accR.toLoadRect ((I c).wi 1) = (I c).wi 1 from Memref.readAt_unit_zero (Elt F) cc0_stg3_0 zeros₂ _ _]
  ihave Hacc := (Entails.of_eq (congrArg (accPts (F := F) c fullShare) (acc_odd I 1 c rfl).symm)) $$ Hacc
  iapply (runs_then (runs_round I K c 2 6 9 6 7 8 (peer 0 c) (peer 1 c) (peer 2 c) rfl rfl rfl rfl rfl rfl rfl rfl)) $$ [Hr2 Hacc HO]
  · isplitr; · iexact Hlev
    isplitr; · iexact HR
    isplitl [Hr2]; · iexact Hr2
    isplitl [Hacc] <;> iassumption
  iintro %_ ⟨Hd2, Hacc, HO⟩
  ihave Hacc := (Entails.of_eq (congrArg (accPts (F := F) c fullShare) (acc_even I 2 c rfl).symm)) $$ Hacc
  iapply (runs_then (runs_round I K c 3 9 12 9 10 11 (peer 3 c) (peer 4 c) (peer 5 c) rfl rfl rfl rfl rfl rfl rfl rfl)) $$ [Hr3 Hacc HO]
  · isplitr; · iexact Hlev
    isplitr; · iexact HR
    isplitl [Hr3]; · iexact Hr3
    isplitl [Hacc] <;> iassumption
  iintro %_ ⟨Hd3, Hacc, HO⟩
  iapply (runs_then (runs_relayer c wo₁M wi₂M ((I c).wo 1) ((I c).wi 2) _)) $$ [Hacc Ho1 Hi2]
  · isplitl [Hacc]; · iexact Hacc
    isplitl [Ho1] <;> iassumption
  iintro %_ ⟨Hacc, Ho1, Hi2⟩
  rw [show wo₁M.view.readAt (Elt F) outR.toLoadRect ((I c).wo 1) = (I c).wo 1 from Memref.readAt_unit_zero (Elt F) cc0_stg4_0 zeros₂ _ _,
    show wi₂M.view.readAt (Elt F) accR.toLoadRect ((I c).wi 2) = (I c).wi 2 from Memref.readAt_unit_zero (Elt F) cc0_stg5_0 zeros₂ _ _]
  ihave Hacc := (Entails.of_eq (congrArg (accPts (F := F) c fullShare) (acc_odd I 3 c rfl).symm)) $$ Hacc
  iapply (runs_then (runs_round I K c 4 12 15 12 13 14 (peer 0 c) (peer 1 c) (peer 2 c) rfl rfl rfl rfl rfl rfl rfl rfl)) $$ [Hr4 Hacc HO]
  · isplitr; · iexact Hlev
    isplitr; · iexact HR
    isplitl [Hr4]; · iexact Hr4
    isplitl [Hacc] <;> iassumption
  iintro %_ ⟨Hd4, Hacc, HO⟩
  ihave Hacc := (Entails.of_eq (congrArg (accPts (F := F) c fullShare) (acc_even I 4 c rfl).symm)) $$ Hacc
  iapply (runs_then (runs_round I K c 5 15 18 15 16 17 (peer 3 c) (peer 4 c) (peer 5 c) rfl rfl rfl rfl rfl rfl rfl rfl)) $$ [Hr5 Hacc HO]
  · isplitr; · iexact Hlev
    isplitr; · iexact HR
    isplitl [Hr5]; · iexact Hr5
    isplitl [Hacc] <;> iassumption
  iintro %_ ⟨Hd5, Hacc, HO⟩
  iapply (runs_then (runs_finish I c (roundSum 15 (acc I 5) c) f)) $$ [Hacc Ho2 Hout]
  · isplitl [Hacc]; · iexact Hacc
    isplitl [Ho2] <;> iassumption
  iintro %_ ⟨Hacc, Ho2, Hout⟩
  isplitl [Hacc]; · iexists _; iexact Hacc
  isplitl [HzB]; · iexact HzB
  isplitl [Hd0 Hd1 Hd2 Hd3 Hd4 Hd5]
  · rw [slots_by_round (slotDone c)]
    isplitl [Hd0]; · iexact Hd0
    isplitl [Hd1]; · iexact Hd1
    isplitl [Hd2]; · iexact Hd2
    isplitl [Hd3]; · iexact Hd3
    isplitl [Hd4] <;> iassumption
  isplitl [HO]
  · ihave HO := (Entails.of_eq (congrArg (owesAny (F := F) c) (owedSlots_end c))) $$ HO
    iexact HO
  isplitr [Hout]
  · isplitl [Hx]; · iexact Hx
    isplitl [Hi0]; · iexact Hi0
    isplitl [Ho0]; · iexact Ho0
    isplitl [Hi1]; · iexact Hi1
    isplitl [Ho1]; · iexact Ho1
    isplitl [Hi2] <;> iassumption
  iexact Hout

end Cert.MlpProof

end
-- ==== Proof.Launch.lean ====
/-
# The launch

The body as the pipeline's point, the ghost state dealt to the devices at launch — cells, tokens, credits —, and the
run of the whole program: every device's result array holds `result`, its inputs are unchanged, every counter is zero.
-/
module

public import proofs.«01_k».proof.Proof.Body
public import proofs.«01_k».proof.Proof.Gen.KernelIdeal.Points
public import Idealize.ShloMosaic.Lib.Ring

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- Each device's inputs, as the launch finds them. -/
def inputs (c : Dev nD) : In F where
  x := (win0_0.blk (0 : Fin 1)).view.read (Elt F) (m ((c : Thread nD τ).loc main_arg0))
  wi n := match n with
    | 0 => (win0_1.blk (0 : Fin 1)).view.read (Elt F) (m ((c : Thread nD τ).loc main_arg1))
    | 1 => (win0_3.blk (0 : Fin 1)).view.read (Elt F) (m ((c : Thread nD τ).loc main_arg2))
    | _ => (win0_5.blk (0 : Fin 1)).view.read (Elt F) (m ((c : Thread nD τ).loc main_arg3))
  wo n := match n with
    | 0 => (win0_2.blk (0 : Fin 1)).view.read (Elt F) (m ((c : Thread nD τ).loc main_arg4))
    | 1 => (win0_4.blk (0 : Fin 1)).view.read (Elt F) (m ((c : Thread nD τ).loc main_arg5))
    | _ => (win0_6.blk (0 : Fin 1)).view.read (Elt F) (m ((c : Thread nD τ).loc main_arg6))

/-! ## The buffers the body works in -/

omit [FloatOps F] in
/-- The running sum's share, as its whole buffer. -/
theorem accPts_eq (c : Dev nD) (X : Vec F S128x256 .bf16) :
    (accPts c fullShare X : sProp 𝕄) = (((c : Thread nD τ).loc cc0_scratch0) ↦{fullShare} X) := by
  unfold accPts; rw [View.set_whole]

/-- The elements of slot `s`, as elements of the receive buffer. -/
def slotSet (c : Dev nD) (s : Fin 18) : Finset (Idx ((c : Thread nD τ).loc cc0_scratch1)) := (slotM s).view.set

/-- A slot's cells are those of its rectangle of the scratch buffer. -/
theorem slotSet_eq (c : Dev nD) (s : Fin 18) : slotSet c s = (slotR s).set :=
  (View.set_reshape _ _).trans (View.set_slice_whole cc0_scratch1 (slotR s))

/-- A cell is in slot `s` when its first coordinate is `s`. -/
theorem mem_slotSet (c : Dev nD) (s : Fin 18) (i : S18x128x256.Idx) : i ∈ slotSet c s ↔ (i 0).val = s.val := by
  rw [slotSet_eq, Rect.mem_set_unit]
  constructor
  · intro h
    have h0 := h 0
    have h1 : s.val ≤ (i 0).val := h0.1
    have h2 : (i 0).val < s.val + 1 := h0.2
    omega
  · intro h a
    match a with
    | 0 => exact ⟨by show s.val ≤ (i 0).val; omega, by show (i 0).val < s.val + 1; omega⟩
    | 1 => exact ⟨Nat.zero_le _, by show (i 1).val < 0 + 128; have h' : (i 1).val < 128 := (i 1).isLt; omega⟩
    | 2 => exact ⟨Nat.zero_le _, by show (i 2).val < 0 + 256; have h' : (i 2).val < 256 := (i 2).isLt; omega⟩

/-- Two slots share no cell. -/
theorem slotSet_disjoint (c : Dev nD) (s s' : Fin 18) (h : s ≠ s') : Disjoint (slotSet c s) (slotSet c s') :=
  Finset.disjoint_left.mpr fun i hi hi' => h (Fin.ext (((mem_slotSet c s i).mp hi).symm.trans ((mem_slotSet c s' i).mp hi')))
/-- The slots are all of the scratch buffer. -/
theorem slotSet_cover (c : Dev nD) : Finset.univ.biUnion (slotSet c) = Finset.univ :=
  Finset.eq_univ_iff_forall.mpr fun i => Finset.mem_biUnion.mpr
    ⟨⟨((i : S18x128x256.Idx) 0).val, ((i : S18x128x256.Idx) 0).isLt⟩, Finset.mem_univ _, (mem_slotSet c _ i).mpr rfl⟩

omit [FloatOps F] in
/-- The receive buffer whole is its eighteen slots. -/
theorem slots_split (c : Dev nD) (f : Buf (Elt F) ((c : Thread nD τ).loc cc0_scratch1)) :
    (((c : Thread nD τ).loc cc0_scratch1) ↦{fullShare} f : sProp 𝕄) ⊢ bigSep Finset.univ fun s : Fin 18 => slotAny c s := by
  have one (s : Fin 18) : (((c : Thread nD τ).loc cc0_scratch1) ↦[slotSet c s]{fullShare} f : sProp 𝕄) ⊢ slotAny c s := by
    unfold slotAny; iintro H; iexists f; iexact H
  rw [Ring.pointsTo_blocks (slotSet c) (slotSet_disjoint c) (slotSet_cover c)]
  exact bigSep_mono fun s _ => one s

omit [FloatOps F] in
/-- The eighteen slots, whatever they hold, are the receive buffer whole. -/
theorem slots_join (c : Dev nD) (f₀ : Buf (Elt F) ((c : Thread nD τ).loc cc0_scratch1)) :
    (bigSep Finset.univ fun s : Fin 18 => slotAny c s) ⊢ (iprop(∃ f, ((c : Thread nD τ).loc cc0_scratch1) ↦{fullShare} f) : sProp 𝕄) :=
  Ring.pointsTo_blocks_join_exists (slotSet c) (slotSet_disjoint c) (slotSet_cover c) f₀

/-! ## The pipeline's proof data -/

/-- The grid has one point. -/
theorem cfg0_N : cfg0.N = 1 := by decide
/-- The pipeline's one point. -/
def t₁ : Fin cfg0.N := ⟨0, by rw [cfg0_N]; decide⟩
/-- Every point is that point. -/
theorem only_point (t : Fin cfg0.N) : t = t₁ := by
  obtain ⟨t, ht⟩ := t; have := cfg0_N; exact Fin.ext (by simp only [t₁]; omega)

/-- The protocol's state and credits a device's body starts from. -/
def start (c : Dev nD) : sProp 𝕄 :=
  iprop((∃ K, ghost (inputs m) K c) ∗ cred (tallyAt (barCell c) () 6) ∗ (bigSep Finset.univ fun s : Fin 18 => cred (tallyAt (recvCell c s) () N))
    ∗ levAts L lv)

/-- Before the point: that, the accumulator and the eighteen slots. -/
def before₁ (c : Dev nD) : sProp 𝕄 :=
  iprop(start m c ∗ (∃ X : Vec F S128x256 .bf16, accPts c fullShare X) ∗ bigSep Finset.univ fun s : Fin 18 => slotAny c s)
/-- After it: the accumulator and the slots again, every cell closed at zero. -/
def after₁ (c : Dev nD) : sProp 𝕄 :=
  iprop((∃ Y : Vec F S128x256 .bf16, accPts c fullShare Y) ∗ semVal (barCell c) 0 ∗ bigSep Finset.univ fun s : Fin 18 => slotDone c s)

/-- What the pipeline keeps on device `c`: the arrays, what the body leaves in each window, and the state before and after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m c).x
    | ⟨1, _⟩ => (inputs m c).wi 0
    | ⟨2, _⟩ => (inputs m c).wo 0
    | ⟨3, _⟩ => (inputs m c).wi 1
    | ⟨4, _⟩ => (inputs m c).wo 1
    | ⟨5, _⟩ => (inputs m c).wi 2
    | ⟨6, _⟩ => (inputs m c).wo 2
    | ⟨7, _⟩ => result (inputs m) c
  Φ j := if j = 0 then before₁ m c else after₁ c
  q _ := fullShare
  owed j := if j = 0 then owedBar 0 c else 0

omit [FloatOps F] in
/-- A conjunction over the windows, written out. -/
theorem windows (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-- A staging buffer holding `X`, as the pipeline says it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a whole staging buffer, as the pipeline says it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- The pipeline's way of saying a staging buffer's contents gives the body's; -/
theorem stg_held (c : Dev nD) (b : Ref sig .tc) (X : b.ty.Contents (Elt F)) :
    (stg c b X : sProp 𝕄) ⊢ (((c : Thread nD τ).loc b) ↦[(View.whole b).set]{fullShare} X) := by
  iintro ⟨%f, %hf, H⟩; subst hf
  rw [View.set_whole]; iexact H
omit [FloatOps F] in
/-- and the body's gives the pipeline's. -/
theorem held_stg (c : Dev nD) (b : Ref sig .tc) (X : b.ty.Contents (Elt F)) :
    (((c : Thread nD τ).loc b) ↦[(View.whole b).set]{fullShare} X : sProp 𝕄) ⊢ stg c b X := by
  rw [View.set_whole]
  iintro H; iexists X; isplitr; · (ipureintro; rfl)
  iexact H

/-- What the body starts from on device `c`. -/
def pointPre (c : Dev nD) : sProp 𝕄 :=
  iprop(before₁ m c ∗ (dats m ρ 0 c).owesAt () t₁.castSucc
    ∗ (∃ d, stg c cc0_stg0_0 ((dats m ρ 0 c).before (0 : Fin 8) t₁ d)) ∗ (∃ d, stg c cc0_stg1_0 ((dats m ρ 0 c).before (1 : Fin 8) t₁ d))
    ∗ (∃ d, stg c cc0_stg2_0 ((dats m ρ 0 c).before (2 : Fin 8) t₁ d)) ∗ (∃ d, stg c cc0_stg3_0 ((dats m ρ 0 c).before (3 : Fin 8) t₁ d))
    ∗ (∃ d, stg c cc0_stg4_0 ((dats m ρ 0 c).before (4 : Fin 8) t₁ d)) ∗ (∃ d, stg c cc0_stg5_0 ((dats m ρ 0 c).before (5 : Fin 8) t₁ d))
    ∗ (∃ d, stg c cc0_stg6_0 ((dats m ρ 0 c).before (6 : Fin 8) t₁ d)) ∗ (∃ d, stg c cc0_stg7_0 ((dats m ρ 0 c).before (7 : Fin 8) t₁ d)))
/-- What it leaves. -/
def pointPost (c : Dev nD) : sProp 𝕄 :=
  iprop(after₁ c ∗ (dats m ρ 0 c).owesAt () t₁.succ
    ∗ stg c cc0_stg0_0 (inputs m c).x ∗ stg c cc0_stg1_0 ((inputs m c).wi 0) ∗ stg c cc0_stg2_0 ((inputs m c).wo 0)
    ∗ stg c cc0_stg3_0 ((inputs m c).wi 1) ∗ stg c cc0_stg4_0 ((inputs m c).wo 1)
    ∗ stg c cc0_stg5_0 ((inputs m c).wi 2) ∗ stg c cc0_stg6_0 ((inputs m c).wo 2) ∗ stg c cc0_stg7_0 (result (inputs m) c))

/-- What an input window's staging buffer holds at the point is the block fetched from its array. -/
theorem fetched (c : Dev nD) (w : Fin cfg0.W) (h : (cfg0.win w).fetch t₁ = true) (d) :
    (dats m ρ 0 c).before w t₁ d = (dats m ρ 0 c).fetched w t₁ d := by unfold Dat.before; rw [if_pos h]

set_option maxRecDepth 8000 in
/-- The body takes the one to the other. -/
theorem point (c : Dev nD) : pointPre m ρ c ⊢ runs c bodyP (fun _ => pointPost m ρ c) := by
  unfold pointPre before₁ start
  iintro ⟨⟨⟨⟨%K, Hg⟩, Hb, Hr, Hl⟩, ⟨%X, Ha⟩, Hs⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [show (dats m ρ 0 c).before (0 : Fin 8) t₁ d0 = (inputs m c).x from fetched m ρ c 0 (fetch0_0 _) d0,
    show (dats m ρ 0 c).before (1 : Fin 8) t₁ d1 = (inputs m c).wi 0 from fetched m ρ c 1 (fetch0_1 _) d1,
    show (dats m ρ 0 c).before (2 : Fin 8) t₁ d2 = (inputs m c).wo 0 from fetched m ρ c 2 (fetch0_2 _) d2,
    show (dats m ρ 0 c).before (3 : Fin 8) t₁ d3 = (inputs m c).wi 1 from fetched m ρ c 3 (fetch0_3 _) d3,
    show (dats m ρ 0 c).before (4 : Fin 8) t₁ d4 = (inputs m c).wo 1 from fetched m ρ c 4 (fetch0_4 _) d4,
    show (dats m ρ 0 c).before (5 : Fin 8) t₁ d5 = (inputs m c).wi 2 from fetched m ρ c 5 (fetch0_5 _) d5,
    show (dats m ρ 0 c).before (6 : Fin 8) t₁ d6 = (inputs m c).wo 2 from fetched m ρ c 6 (fetch0_6 _) d6]
  ihave H0 := (stg_held c cc0_stg0_0 _) $$ H0
  ihave H1 := (stg_held c cc0_stg1_0 _) $$ H1
  ihave H2 := (stg_held c cc0_stg2_0 _) $$ H2
  ihave H3 := (stg_held c cc0_stg3_0 _) $$ H3
  ihave H4 := (stg_held c cc0_stg4_0 _) $$ H4
  ihave H5 := (stg_held c cc0_stg5_0 _) $$ H5
  ihave H6 := (stg_held c cc0_stg6_0 _) $$ H6
  ihave H7 := (stg_held c cc0_stg7_0 _) $$ H7
  unfold Dat.owesAt Pipeline.owesWithin
  icases Ho with ⟨%W, %hW, Ho⟩
  iapply (runs_then (runs_body (inputs m) K c X _)) $$ [Hg Hb Hr Hl Ha Hs Ho H0 H1 H2 H3 H4 H5 H6 H7]
  · isplitl [Hl]; · iexact Hl
    isplitl [Hg]; · iexact Hg
    isplitl [Hb]; · iexact Hb
    isplitl [Hr]; · iexact Hr
    isplitl [Ha]; · iexact Ha
    isplitl [Hs]; · iexact Hs
    isplitl [Ho]
    · unfold owesAny; iexists W; iexact Ho
    isplitr [H7]
    · unfold staged
      isplitl [H0]; · iexact H0
      isplitl [H1]; · iexact H1
      isplitl [H2]; · iexact H2
      isplitl [H3]; · iexact H3
      isplitl [H4]; · iexact H4
      isplitl [H5]; · iexact H5
      iexact H6
    iexact H7
  unfold staged owesAny
  iintro %u ⟨Ha, Hb, Hs, ⟨%W', Ho⟩, ⟨H0, H1, H2, H3, H4, H5, H6⟩, H7⟩
  unfold pointPost after₁ Dat.owesAt Pipeline.owesWithin
  isplitl [Ha Hb Hs]
  · isplitl [Ha]; · iexact Ha
    isplitl [Hb]; · iexact Hb
    iexact Hs
  isplitl [Ho]
  · iexists W'
    isplitr; · ipureintro; exact fun _ _ => Or.inl trivial
    iexact Ho
  isplitl [H0]; · iapply (held_stg c cc0_stg0_0 _); iexact H0
  isplitl [H1]; · iapply (held_stg c cc0_stg1_0 _); iexact H1
  isplitl [H2]; · iapply (held_stg c cc0_stg2_0 _); iexact H2
  isplitl [H3]; · iapply (held_stg c cc0_stg3_0 _); iexact H3
  isplitl [H4]; · iapply (held_stg c cc0_stg4_0 _); iexact H4
  isplitl [H5]; · iapply (held_stg c cc0_stg5_0 _); iexact H5
  isplitl [H6]; · iapply (held_stg c cc0_stg6_0 _); iexact H6
  iapply (held_stg c cc0_stg7_0 _); iexact H7

set_option maxRecDepth 20000 in
/-- The pipeline's obligation on the body. -/
theorem body_obligation (c : Dev nD) : BodyObligation (dats (F := F) m ρ 0 c) (defs₀ (F := F)) 𝒱₀ () Set.univ := fun t => by
  rw [only_point t, windows, windows]
  simp only [owns_whole]
  show pointPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      cc0_scratch2 cc0_scratch3) (fun _ => pointPost m ρ c)
  rw [body_eq]
  exact point m ρ c

end Cert.MlpProof

end
-- ==== Proof.Run.lean ====
/-
# The run

The ghost state dealt to the devices at launch — cells, tokens, credits — and the run of the whole program.
-/
module

public import proofs.«01_k».proof.Proof.Launch
public import Idealize.ShloMosaic.Lib.Pipeline.CollectiveSegs

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (I : Dev nD → In F)

/-! ## A device's cells and tokens -/

/-- The kernel's own semaphores: slot by slot, the send semaphores and then the receive semaphores. -/
abbrev osem : Fin 18 ⊕ Fin 18 → SemLoc sig
  | .inl s => .dma (sendS s)
  | .inr s => .dma (recvS s)
/-- A device's cells: the barrier's and the kernel's own. -/
abbrev csem : Unit ⊕ (Fin 18 ⊕ Fin 18) → SemLoc sig
  | .inl _ => .reg barS
  | .inr k => osem k
/-- A device's cell of each kind. -/
abbrev cell (x : Dev nD × (Unit ⊕ (Fin 18 ⊕ Fin 18))) : GSem nD τ sig := ((x.1 : Thread nD τ), csem x.2)
/-- A device's tokens: the six of its barrier cell, and one of each other cell. -/
abbrev tok (x : Dev nD × (Fin 6 ⊕ (Fin 18 ⊕ Fin 18))) : GSem nD τ sig × ℕ × Fin 6 := match x.2 with
  | .inl d => (barCell x.1, 0, d)
  | .inr k => (cell (x.1, .inr k), 0, 0)

/-- What the launch asks of the kernel's own semaphores. -/
theorem ownSemFacts : Pipeline.OwnSemFacts cfg0.spec osem := by decide

/-- The semaphores are distinct. -/
theorem csem_injective : Function.Injective csem := by decide
/-- The cells are distinct. -/
theorem cell_injective : Function.Injective cell := by
  rintro ⟨c, k⟩ ⟨c', k'⟩ h
  have h1 : c = c' := congrArg (fun g : GSem nD τ sig => g.1.1) h
  have h2 : k = k' := csem_injective (congrArg Prod.snd h)
  rw [h1, h2]
/-- The tokens are distinct. -/
theorem tok_injective : Function.Injective tok := by
  rintro ⟨c, j⟩ ⟨c', j'⟩ h
  rcases j with d | k <;> rcases j' with d' | k'
  · have h1 : c = c' := congrArg (fun x : GSem nD τ sig × ℕ × Fin 6 => x.1.1.1) h
    have h2 : d = d' := congrArg (fun x : GSem nD τ sig × ℕ × Fin 6 => x.2.2) h
    rw [h1, h2]
  · have h1 : cell (c, .inl ()) = cell (c', .inr k') := congrArg Prod.fst h
    exact absurd (congrArg Prod.snd (cell_injective h1)) (fun h' => by cases h')
  · have h1 : cell (c, .inr k) = cell (c', .inl ()) := congrArg Prod.fst h
    exact absurd (congrArg Prod.snd (cell_injective h1)) (fun h' => by cases h')
  · have h1 : cell (c, .inr k) = cell (c', .inr k') := congrArg Prod.fst h
    have h2 := cell_injective h1
    have h3 : c = c' := congrArg Prod.fst h2
    have h4 : k = k' := Sum.inr.inj (congrArg Prod.snd h2)
    rw [h3, h4]

/-- Every cell of the mesh. -/
def allCells : Finset (GSem nD τ sig) := Finset.univ.map ⟨cell, cell_injective⟩
/-- Every duty's token. -/
def allToks : Finset (GSem nD τ sig × ℕ × Fin 6) := Finset.univ.map ⟨tok, tok_injective⟩

/-- The ghost state at launch: the pipeline's, and every cell at round 0 with its tokens. -/
def u₀ : UU := (initOf (Pipeline.cells cfgs cellOf_inj) (Pipeline.launchToks cfgs cellOf_inj), initOf allCells allToks)

omit [FloatOps F] in
/-- A product over a device's cells, kind by kind. -/
theorem by_kind (Φ : Unit ⊕ (Fin 18 ⊕ Fin 18) → sProp 𝕄) :
    bigSep Finset.univ Φ = iprop(Φ (.inl ()) ∗ (bigSep Finset.univ fun s => Φ (.inr (.inl s))) ∗ bigSep Finset.univ fun s => Φ (.inr (.inr s))) := by
  rw [bigSep_univ_sum, bigSep_univ_sum, bigSep_univ_of_subsingleton ()]; rfl
omit [FloatOps F] in
/-- A product over every device's cells, kind by kind. -/
theorem all_by_kind (Φ : Dev nD × (Unit ⊕ (Fin 18 ⊕ Fin 18)) → sProp 𝕄) :
    bigSep Finset.univ Φ = iprop((bigSep Finset.univ fun c : Dev nD => Φ (c, .inl ()))
      ∗ (bigSep Finset.univ fun x : Dev nD × Fin 18 => Φ (x.1, .inr (.inl x.2))) ∗ bigSep Finset.univ fun x : Dev nD × Fin 18 => Φ (x.1, .inr (.inr x.2))) := by
  rw [bigSep_univ_prod, bigSep_congr (s := Finset.univ) (fun (c : Dev nD) _ => by_kind fun k => Φ (c, k)), bigSep_sep', bigSep_sep',
    bigSep_univ_prod (fun x : Dev nD × Fin 18 => Φ (x.1, .inr (.inl x.2))), bigSep_univ_prod (fun x : Dev nD × Fin 18 => Φ (x.1, .inr (.inr x.2)))]

/-- The tokens of device `c`'s own cells. -/
def toks (c : Dev nD) : sProp 𝕄 :=
  iprop((bigSep Finset.univ fun d : Fin 6 => dutyTok ER (barCell c) 0 d) ∗ (bigSep Finset.univ fun s : Fin 18 => dutyTok ER (sendCell c s) 0 0)
    ∗ bigSep Finset.univ fun s : Fin 18 => dutyTok ER (recvCell c s) 0 0)
/-- The tokens of what device `c` itself pays. -/
def payToks (c : Dev nD) : sProp 𝕄 :=
  iprop((bigSep Finset.univ fun d : Fin 6 => dutyTok ER (barCell (peer d c)) 0 d) ∗ (bigSep Finset.univ fun s : Fin 18 => dutyTok ER (sendCell c s) 0 0)
    ∗ bigSep Finset.univ fun s : Fin 18 => dutyTok ER (recvCell (peer (dir s.val) c) s) 0 0)

omit [FloatOps F] in
/-- What every device holds for each of its own places, dealt to the peer across each place. -/
theorem dealt {T : Type} [Fintype T] (d : T → Fin 6) (Φ : Dev nD → T → sProp 𝕄) :
    (bigSep Finset.univ fun c : Dev nD => bigSep Finset.univ fun t => Φ c t) = bigSep Finset.univ fun c : Dev nD => bigSep Finset.univ fun t => Φ (peer (d t) c) t := by
  rw [bigSep_univ_comm, bigSep_univ_comm (fun c t => Φ (peer (d t) c) t)]
  refine bigSep_congr fun t _ => ?_
  exact bigSep_univ_equiv ⟨peer (d t), peer (d t), peer_peer (d t), peer_peer (d t)⟩ fun c => Φ c t

omit [FloatOps F] in
/-- The tokens, gathered by the cells that they are of, are the tokens gathered by the devices that pay them. -/
theorem toks_dealt : (bigSep Finset.univ fun c : Dev nD => (toks c : sProp 𝕄)) = bigSep Finset.univ fun c : Dev nD => payToks c := by
  unfold toks payToks
  rw [bigSep_sep', bigSep_sep', bigSep_sep', bigSep_sep', dealt (fun d => d) (fun c d => (dutyTok ER (barCell c) 0 d : sProp 𝕄)),
    dealt (fun s : Fin 18 => dir s.val) (fun c s => (dutyTok ER (recvCell c s) 0 0 : sProp 𝕄))]

/-- What the launch element deals device `c`. -/
def dealt₀ (c : Dev nD) : sProp 𝕄 :=
  iprop((bigSep Finset.univ fun k => roundState ER (sched I) (cell (c, k)) 0)
    ∗ ((bigSep Finset.univ fun k => atPos ER (cell (c, k)) 0 ∅ 0) ∗ bigSep Finset.univ fun k => reached ER (cell (c, k)) 0) ∗ toks c)

/-- The initial resource gives every device its cells' parts and tokens. -/
theorem fund_cells : BI.own (ER (initOf allCells allToks)) ⊢ (|==> bigSep Finset.univ (dealt₀ I) : sProp 𝕄) := by
  have hX (Φ : GSem nD τ sig → sProp 𝕄) : bigSep allCells Φ = bigSep Finset.univ fun c : Dev nD => bigSep Finset.univ fun k => Φ (cell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched I) allCells allToks) $$ HX with ⟨Hst, Hr, Hat, Htok⟩
  imodintro
  ihave Hst := (Entails.of_eq (hX fun g => roundState ER (sched I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt₀; simp only [bigSep_sep']
  isplitl [Hst]; · iexact Hst
  isplitl [Hat Hr]
  · isplitl [Hat] <;> iassumption
  iexact Htok

/-! ## The semaphores -/

omit [FloatOps F] in
/-- The kernel's own counters at zero are the send and receive cells' counters at zero. -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 18 => semVal (sendCell c s) 0) ∗ bigSep Finset.univ fun s : Fin 18 => semVal (recvCell c s) 0) := by
  unfold Pipeline.ownSems0; rw [bigSep_univ_sum]; rfl
omit [FloatOps F] in
/-- The unscoped counter at zero is the barrier cell's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- All the counters at zero are the cells' counters at zero, by kind. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (cell (c, k)) 0 : sProp 𝕄) := by
  rw [ownSems0_eq, unscopedSems0_eq, by_kind]
  iintro ⟨⟨HS, HV⟩, HB⟩
  isplitl [HB]; · iexact HB
  isplitl [HS]; · iexact HS
  iexact HV

/-- A device's cells opened at its semaphores. -/
theorem cells_open (c : Dev nD) :
    iprop(Pipeline.ownSems0 (Ix := Unit) (Name := ℕ) (U := UU) (Lvl := ℕ) (Val := Elt F) (τ := τ) osem c ∗ unscopedSems0 c ∗ dealt₀ I c)
      ⊢ |={Set.univ}=> iprop((bigSep Finset.univ fun k => iprop(∃ κ : ℕ, cellInv ER (sched I) κ (cell (c, k))))
          ∗ ((bigSep Finset.univ fun k => atPos ER (cell (c, k)) 0 ∅ 0) ∗ bigSep Finset.univ fun k => reached ER (cell (c, k)) 0) ∗ toks c) := by
  have alloc : iprop((bigSep Finset.univ fun k => semVal (cell (c, k)) 0) ∗ bigSep Finset.univ fun k => roundState ER (sched I) (cell (c, k)) 0)
      ⊢ (|={Set.univ}=> bigSep Finset.univ fun k => iprop(∃ κ : ℕ, cellInv ER (sched I) κ (cell (c, k))) : sProp 𝕄) := by
    rw [← bigSep_sep']
    exact (bigSep_mono fun k _ => (Rounds.body_intro ER (sched I) (cell (c, k))).trans inv_alloc).trans (bigSep_fupd _ _)
  unfold dealt₀
  iintro ⟨Hos, Hus, Hst, Hat, Htok⟩
  ihave Hv := (sems0_eq (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

/-- A device's positions and the tokens it pays with. -/
def own₀ (c : Dev nD) : sProp 𝕄 := iprop((bigSep Finset.univ fun k => atPos ER (cell (c, k)) 0 ∅ 0) ∗ payToks c)

/-- The records and a device's own part are what the body asks for. -/
theorem ghost_intro (K : Names) (c : Dev nD) : iprop(records I K ∗ own₀ c) ⊢ (iprop(∃ K, ghost I K c) : sProp 𝕄) := by
  unfold own₀ payToks ghost
  rw [by_kind, bigSep_sep', bigSep_sep', bigSep_sep']
  iintro ⟨HR, ⟨HB, HS, HV⟩, TB, TS, TV⟩
  iexists K
  isplitl [HR]; · iexact HR
  isplitl [HB]; · iexact HB
  isplitl [TB]; · iexact TB
  isplitl [HS]; · iexact HS
  isplitl [HV]; · iexact HV
  isplitl [TS]; · iexact TS
  iexact TV

omit [FloatOps F] in
/-- A fact that may be kept, given to every member of a product. -/
theorem with_kept {T : Type} [Fintype T] [DecidableEq T] {R : sProp 𝕄} [BI.Persistent R] {Φ Ψ : T → sProp 𝕄}
    (h : ∀ t, iprop(R ∗ Φ t) ⊢ Ψ t) : iprop(R ∗ bigSep Finset.univ Φ) ⊢ bigSep Finset.univ Ψ :=
  (sep_mono_left (BI.bigSep_of_persistent Finset.univ R)).trans (by rw [← bigSep_sep']; exact bigSep_mono fun t _ => h t)

/-- Every device's part of the cells and tokens made its start. -/
theorem ghosts :
    (bigSep Finset.univ fun c : Dev nD => iprop((bigSep Finset.univ fun k => iprop(∃ κ : ℕ, cellInv ER (sched I) κ (cell (c, k))))
          ∗ ((bigSep Finset.univ fun k => atPos ER (cell (c, k)) 0 ∅ 0) ∗ bigSep Finset.univ fun k => reached ER (cell (c, k)) 0) ∗ toks c) : sProp 𝕄)
      ⊢ bigSep Finset.univ fun c => iprop(∃ K, ghost I K c) := by
  rw [bigSep_sep', bigSep_sep', bigSep_sep', toks_dealt,
    ← bigSep_univ_prod (fun x : Dev nD × (Unit ⊕ (Fin 18 ⊕ Fin 18)) => iprop(∃ κ : ℕ, cellInv ER (sched I) κ (cell x))),
    ← bigSep_univ_prod (fun x : Dev nD × (Unit ⊕ (Fin 18 ⊕ Fin 18)) => (reached ER (cell x) 0 : sProp 𝕄)), all_by_kind (fun x => reached ER (cell x) 0)]
  iintro ⟨HI, ⟨Hat, HR⟩, Htok⟩
  ihave HK := (BI.bigSep_exists_pi Finset.univ (fun (x : Dev nD × (Unit ⊕ (Fin 18 ⊕ Fin 18))) (κ : ℕ) => (cellInv ER (sched I) κ (cell x) : sProp 𝕄))) $$ HI
  icases HK with ⟨%K, HI⟩
  ihave HI := (Entails.of_eq (all_by_kind fun x => (cellInv ER (sched I) (K x) (cell x) : sProp 𝕄))) $$ HI
  iapply (with_kept (R := records I ⟨fun c => K (c, .inl ()), fun x => K (x.1, .inr (.inl x.2)), fun x => K (x.1, .inr (.inr x.2))⟩)
    fun c => ghost_intro I ⟨fun c => K (c, .inl ()), fun x => K (x.1, .inr (.inl x.2)), fun x => K (x.1, .inr (.inr x.2))⟩ c)
  isplitl [HI HR]
  · unfold records
    isplitl [HI]; · iexact HI
    iexact HR
  · unfold own₀; rw [bigSep_sep']
    isplitl [Hat]; · iexact Hat
    iexact Htok

/-- The launch's one step over all the devices at once. -/
theorem glob : (bigSep Finset.univ fun c => iprop(Pipeline.ownSems0 (Ix := Unit) (Name := ℕ) (U := UU) (Lvl := ℕ) (Val := Elt F) (τ := τ) osem c ∗ unscopedSems0 c ∗ dealt₀ I c) : sProp 𝕄)
    ⊢ |={Set.univ}=> bigSep Finset.univ fun c => iprop(∃ K, ghost I K c) :=
  ((bigSep_mono fun c _ => cells_open I c).trans (bigSep_fupd _ _)).trans (BI.fupd_mono (ghosts I))

/-! ## The launch's credits -/

/-- A sum of tallies read at a cell counts the members at that cell. -/
theorem sum_at {T : Type} [Fintype T] (cell : T → GSem nD τ sig) (k : ℕ) (g : GSem nD τ sig) :
    (∑ t, tallyAt (cell t) () k : CellTallies nD τ sig Unit) g () = ∑ t, if g = cell t then k else 0 := by
  rw [Finset.sum_apply, Finsupp.finset_sum_apply]
  refine Finset.sum_congr rfl fun t _ => ?_
  rw [tallyAt_apply]
  by_cases h : g = cell t
  · rw [if_pos ⟨h, rfl⟩, if_pos h]
  · rw [if_neg (fun h' => h h'.1), if_neg h]

/-- What device `d` owes at the launch, at a cell. -/
theorem owed_at (d : Dev nD) (g : GSem nD τ sig) :
    owedBar 0 d g () = (∑ s : Fin 18, if g = recvCell (peer (dir s.val) d) s then N else 0) + ∑ e : Fin 6, if g = barCell (peer e d) then 1 else 0 := by
  unfold owedBar owedSlots
  rw [Finset.filter_true_of_mem (fun _ _ => Nat.zero_le _), Finset.filter_true_of_mem (fun _ _ => Nat.zero_le _), Pi.add_apply, Finsupp.add_apply,
    sum_at, sum_at]

/-- Equal cells are of one device and one kind. -/
theorem cell_eq {c c' : Dev nD} {k k'} (h : cell (c, k) = cell (c', k')) : c = c' ∧ k = k' :=
  ⟨congrArg Prod.fst (cell_injective h), congrArg Prod.snd (cell_injective h)⟩

/-- Being a partner is symmetric. -/
theorem peer_eq {e : Fin 6} {c d : Dev nD} (h : c = peer e d) : d = peer e c := by rw [h, peer_peer]

/-- At a barrier cell a device owes one unit for every direction in which it is the partner. -/
theorem owed_bar (d c : Dev nD) : owedBar 0 d (barCell c) () = ∑ e : Fin 6, if d = peer e c then 1 else 0 := by
  rw [owed_at, Finset.sum_eq_zero fun s _ => if_neg (fun h => absurd (cell_eq (k := .inl ()) (k' := .inr (.inr s)) h).2 (fun h' => by cases h')), zero_add]
  refine Finset.sum_congr rfl fun e _ => if_congr ⟨fun h => peer_eq (cell_eq (k := .inl ()) (k' := .inl ()) h).1, fun h => ?_⟩ rfl rfl
  rw [h, peer_peer]

/-- At a receive cell only the slot's partner owes, one block. -/
theorem owed_recv (d c : Dev nD) (s : Fin 18) : owedBar 0 d (recvCell c s) () = if d = peer (dir s.val) c then N else 0 := by
  rw [owed_at, Finset.sum_eq_zero (s := (Finset.univ : Finset (Fin 6))) fun e _ => if_neg (fun h => absurd (cell_eq (k := .inr (.inr s)) (k' := .inl ()) h).2 (fun h' => by cases h')), add_zero,
    Finset.sum_eq_single s]
  · refine if_congr ⟨fun h => peer_eq (cell_eq (k := .inr (.inr s)) (k' := .inr (.inr s)) h).1, fun h => ?_⟩ rfl rfl
    rw [h, peer_peer]
  · intro t _ ht
    exact if_neg fun h => ht (Sum.inr.inj (Sum.inr.inj (cell_eq (k := .inr (.inr s)) (k' := .inr (.inr t)) h).2)).symm
  · intro h; exact absurd (Finset.mem_univ s) h

/-- The devices together owe a barrier cell six units. -/
theorem credit_bar (c : Dev nD) :
    tallyOn (barCell c) (launchCredit (Pipeline.owing (owedBar 0)) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun e _ => Finset.sum_ite_eq' Finset.univ (peer e c) fun _ => 1]
  simp
/-- The devices together owe a receive cell one block. -/
theorem credit_recv (c : Dev nD) (s : Fin 18) :
    tallyOn (recvCell c s) (launchCredit (Pipeline.owing (owedBar 0)) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (peer (dir s.val) c) fun _ => N, if_pos (Finset.mem_univ _)]

/-- The receive semaphores are distinct. -/
theorem recvS_injective : Function.Injective fun s : Fin 18 => (SemLoc.dma (recvS s) : SemLoc sig) := by decide

omit [FloatOps F] in
/-- A device's credits at launch: its barrier's six and each receive semaphore's. -/
theorem credits (c : Dev nD) :
    (Pipeline.launchCred (owedBar 0) c : sProp 𝕄)
      ⊢ iprop(cred (tallyAt (barCell c) () 6) ∗ bigSep Finset.univ fun s : Fin 18 => cred (tallyAt (recvCell c s) () N)) := by
  unfold Pipeline.launchCred
  rw [bigSep_univ_at _ (SemLoc.reg barS), credit_bar]
  refine sep_mono_right ((bigSep_subset (t := Finset.univ.map ⟨_, recvS_injective⟩) fun x hx => ?_).trans ?_)
  · obtain ⟨s, _, rfl⟩ := Finset.mem_map.mp hx
    exact Finset.mem_erase.mpr ⟨fun h => absurd (show SemLoc.dma (recvS s) = SemLoc.reg barS from h) (fun h' => by cases h'), Finset.mem_univ _⟩
  · rw [bigSep_map]
    exact bigSep_mono fun s _ => Entails.of_eq (congrArg cred (credit_recv c s))

/-! ## The theorem's side conditions -/

/-- Every window is held in full. -/
theorem share_eq (c : Dev nD) (w : Fin cfg0.W) : (dats m ρ 0 c).share w = fullShare := by unfold Dat.share; split <;> rfl

/-- What the launch hands a device is what the body starts from. -/
theorem start_intro (c : Dev nD) :
    iprop(Pipeline.unscopedRestP Pipeline.Prefetch.none cfg0.spec c (fun b => m ((c : Thread nD τ).loc b)) ∗ levAts L lv
        ∗ Pipeline.launchCred (owedBar 0) c ∗ prngReg c (ρ c) ∗ (∃ K, ghost (inputs m) K c))
      ⊢ |={Set.univ}=> iprop(start m c ∗ emp) := by
  iintro ⟨-, Hlev, Hcr, -, HG⟩
  ihave Hc := (credits (F := F) c) $$ Hcr
  icases Hc with ⟨H1, HN⟩
  imodintro
  unfold start
  isplitl
  · isplitl [HG]; · iexact HG
    isplitl [H1]; · iexact H1
    isplitl [HN]; · iexact HN
    iexact Hlev
  · iempintro

/-- With the scratch buffers it is the state before the point. -/
theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₁ m c from rfl, scopedRest0_eq]
  unfold before₁
  iintro ⟨Hs, -, ⟨%f, Ha⟩, ⟨%g, Hr⟩⟩
  isplitl [Hs]; · iexact Hs
  isplitl [Ha]
  · iexists f; rw [accPts_eq]; iexact Ha
  iapply (slots_split c g); iexact Hr

/-- The state after the point gives the scratch buffers and the counters back. -/
theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₁ c from rfl, scopedRest0_eq, ownSems0_eq, unscopedSems0_eq]
  unfold after₁ slotDone
  rw [bigSep_sep', bigSep_sep']
  iintro ⟨⟨%Y, Ha⟩, HB, HS, HV, Hs⟩
  isplitl [HB]; · iexact HB
  isplitl [HS HV]
  · isplitl [HS] <;> iassumption
  isplitl [Ha]
  · iexists Y; rw [← accPts_eq]; iexact Ha
  iapply (slots_join c (m ((c : Thread nD τ).loc cc0_scratch1))); iexact Hs

/-- The pipeline's own waits are below everything owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_zero_level c _ (by revert c; fin_cases w <;> fin_cases s <;> decide)
    · show _ ⊢ MayWait (c : Thread nD τ) _ () 0
      rw [MayWait_zero]; iintro -; iempintro

/-! ## The run -/

/-- What window `w`'s array holds after the run. -/
def finalA (c : Dev nD) (w : Fin cfg0.W) : Buf (Elt F) ((cfg0.win w).arr.view.loc (c : Thread nD τ)) := (dats m ρ 0 c).arrAt w cfg0.N

set_option maxRecDepth 8000 in
/-- Every weakly fair run of the program, from any memory with every counter zero, terminates with every window's array
    at its computed contents and every counter zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedBar 0) (howed₀ := fun _ => rfl) (howedN := fun _ => rfl)
    (L := L) (lv := lv) (hL := L_of_ne) (hwaits := waits m ρ)
    (G := dealt₀ (inputs m)) (G' := fun c => iprop(∃ K, ghost (inputs m) K c)) (u₀ := u₀)
    (hu₀ := by
      unfold u₀
      iintro Hu
      ihave H := (ownU_pair _ _) $$ Hu
      icases H with ⟨HP, HX⟩
      imod (fund_cells (inputs m)) $$ HX with HG
      imodintro
      isplitl [HP] <;> iassumption)
    (hglob := glob (inputs m))
    (hA := fun _ _ => rfl) (hpf := fun _ k => k.elim0)
    (X := start m) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds after the run what it held before. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

end Cert.MlpProof

end
-- ==== Proof.Value.lean ====
/-
# The value

At the ideal values an exchange layer's two rounds sum a block over all the devices; the sum over the devices of their
blocks' products is the whole product; so each device's `result` is its block of the reference's result.
-/
module

public import proofs.«01_k».proof.Proof.Schedule
public import proofs.«01_k».proof.Proof.Gen.ReferenceIdeal
public import Idealize.ShloMosaic.Lib.Pointwise
public import Idealize.ShloMosaic.Lib.Pipeline.ValueKit
public import Idealize.ShloMosaic.Lib.Layout

@[expose] public section

noncomputable section

namespace Cert.MlpProof

open Cert.KernelIdeal Cert.KernelIdeal.Gen
open Idealize.ShloMosaic Idealize.ShloMosaic.TcCoe

/-- The reference's dot dimensions. -/
abbrev firstDims := Cert.ReferenceIdeal.dot_S128x2048_S2048x256_S128x256_1_0_0_1_n_n
abbrev secondDims := Cert.ReferenceIdeal.dot_S128x256_S256x2048_S128x2048_1_0_0_1_n_n

/-- The whole arrays: activations, first weights, second weights. -/
abbrev WideX := FVec Ideal ⟨2, ![128, 2048]⟩ .bf16
abbrev TallW := FVec Ideal ⟨2, ![2048, 256]⟩ .bf16
abbrev WideW := FVec Ideal ⟨2, ![256, 2048]⟩ .bf16

/-- The rectified zero of the reference. -/
def zeroes : FVec Ideal S128x256 .bf16 := broadcastInDim S128x256 ![] Cert.ReferenceIdeal.Gen.facts.bcast_S_S128x256 (constant Cert.ReferenceIdeal.S_ .bf16 0x0000#16)
/-- The reference's first product of a layer. -/
def wholeFirst (X : WideX) (W : TallW) : FVec Ideal S128x256 .bf16 := truncf .bf16 (Host.dotGeneral firstDims none X W) bitsLt_bf16_f32
/-- The reference's second product of a layer. -/
def wholeSecond (U : FVec Ideal S128x256 .bf16) (W : WideW) : WideX := truncf .bf16 (Host.dotGeneral secondDims none (maximumf U zeroes) W) bitsLt_bf16_f32

/-! ## Two rounds sum over the devices -/

/-- A round's sum of four blocks, at an element. -/
theorem sum4_apply (a x y z : Vec Ideal S128x256 .bf16) (j : S128x256.Idx) :
    (sum4 a x y z : FVec Ideal S128x256 .bf16) j = (a j : EReal) + x j + y j + z j := by
  unfold sum4 total k0_pay5 k0_pay4
  pointwise

/-- The four devices whose blocks a device sums in a layer's first round, and in its second. -/
def near : Fin 4 → Dev nD → Dev nD := ![id, peer 0, peer 1, peer 2]
def far : Fin 4 → Dev nD → Dev nD := ![id, peer 3, peer 4, peer 5]

/-- Going through one of the four far devices and then one of its four near ones reaches every device once. -/
theorem reach_bijective (c : Dev nD) : Function.Bijective fun p : Fin 4 × Fin 4 => near p.2 (far p.1 c) :=
  (Fintype.bijective_iff_injective_and_card _).mpr ⟨by revert c; decide, by decide⟩

/-- A layer's first round sums over the four near devices. -/
theorem roundSum_near (n : ℕ) (hn : n % 6 = 0) (A : Dev nD → Vec Ideal S128x256 .bf16) (c : Dev nD) (j : S128x256.Idx) :
    (roundSum n A c : FVec Ideal S128x256 .bf16) j = ∑ u : Fin 4, (A (near u c) j : EReal) := by
  have h0 : dir n = 0 := Fin.ext hn
  have h1 : dir (n + 1) = 1 := Fin.ext (show (n + 1) % 6 = 1 by omega)
  have h2 : dir (n + 2) = 2 := Fin.ext (show (n + 2) % 6 = 2 by omega)
  unfold roundSum
  rw [sum4_apply, Fin.sum_univ_four, h0, h1, h2]; rfl
/-- Its second round sums over the four far devices. -/
theorem roundSum_far (n : ℕ) (hn : n % 6 = 3) (A : Dev nD → Vec Ideal S128x256 .bf16) (c : Dev nD) (j : S128x256.Idx) :
    (roundSum n A c : FVec Ideal S128x256 .bf16) j = ∑ u : Fin 4, (A (far u c) j : EReal) := by
  have h0 : dir n = 3 := Fin.ext hn
  have h1 : dir (n + 1) = 4 := Fin.ext (show (n + 1) % 6 = 4 by omega)
  have h2 : dir (n + 2) = 5 := Fin.ext (show (n + 2) % 6 = 5 by omega)
  unfold roundSum
  rw [sum4_apply, Fin.sum_univ_four, h0, h1, h2]; rfl

/-- A layer's two rounds leave on every device the sum over all the devices. -/
theorem rounds_sum (n n' : ℕ) (hn : n % 6 = 0) (hn' : n' % 6 = 3) (A : Dev nD → Vec Ideal S128x256 .bf16) (c : Dev nD) :
    (roundSum n' (roundSum n A) c : FVec Ideal S128x256 .bf16) = fun j => ∑ d : Dev nD, (A d j : EReal) := by
  funext j
  rw [roundSum_far n' hn', Finset.sum_congr rfl fun u _ => roundSum_near n hn A (far u c) j,
    ← (reach_bijective c).sum_comp fun d => (A d j : EReal), Fintype.sum_prod_type]

/-! ## The products -/

/-- The element of row `r` and column `k`. -/
abbrev at₂ {n k : ℕ} (r : Fin n) (c : Fin k) : (⟨2, ![n, k]⟩ : Shape).Idx := ValueIdx.ix2 r c

/-- A layer's first product on a device, at an element. -/
theorem first_apply (x : Vec Ideal S128x128 .bf16) (w : Vec Ideal S128x256 .bf16) (j : S128x256.Idx) :
    (first x w : FVec Ideal S128x256 .bf16) j = ∑ k : Fin 128, (x (at₂ (j 0) k) : EReal) * w (at₂ k (j 1)) := by
  unfold first k0_pay3
  pointwise
  rfl
/-- The reference's, at an element. -/
theorem wholeFirst_apply (X : WideX) (W : TallW) (j : S128x256.Idx) :
    wholeFirst X W j = ∑ k : Fin 2048, (X (at₂ (j 0) k) : EReal) * W (at₂ k (j 1)) := by
  unfold wholeFirst
  pointwise
  rfl

/-- Where a block of columns, and a block of rows, lies in the whole array. -/
theorem column_block {n k b : ℕ} (h : Layout.Tiles ⟨2, ![n, k]⟩ ⟨2, ![n, b]⟩ 1 16) (d : Fin 16) (r : Fin n) (c : Fin k) (hl : d.val * k + c.val < b) :
    h.idx d (at₂ r c) = at₂ r ⟨d.val * k + c.val, hl⟩ := by
  funext a; apply Fin.ext
  match a with
  | ⟨0, _⟩ => exact (Layout.idx_cols_val h d _).1
  | ⟨1, _⟩ => exact (Layout.idx_cols_val h d _).2
theorem row_block {n k b : ℕ} (h : Layout.Tiles ⟨2, ![n, k]⟩ ⟨2, ![b, k]⟩ 0 16) (d : Fin 16) (r : Fin n) (c : Fin k) (hl : d.val * n + r.val < b) :
    h.idx d (at₂ r c) = at₂ ⟨d.val * n + r.val, hl⟩ c := by
  funext a; apply Fin.ext
  match a with
  | ⟨0, _⟩ => exact (Layout.idx_rows_val h d _).1
  | ⟨1, _⟩ => exact (Layout.idx_rows_val h d _).2

/-- The devices' first products of their blocks sum to the first product of the whole arrays. -/
theorem first_sum (X : WideX) (W : TallW) (x : Dev nD → Vec Ideal S128x128 .bf16) (w : Dev nD → Vec Ideal S128x256 .bf16)
    (hx : ∀ d, x d = Layout.block ⟨2, ![128, 128]⟩ ⟨2, ![128, 2048]⟩ 1 16 d X)
    (hw : ∀ d, w d = Layout.block ⟨2, ![128, 256]⟩ ⟨2, ![2048, 256]⟩ 0 16 d W) :
    (fun j => ∑ d : Dev nD, ((first (x d) (w d) : FVec Ideal S128x256 .bf16) j : EReal)) = wholeFirst X W := by
  funext j
  rw [wholeFirst_apply, Finset.sum_congr rfl fun d _ => first_apply (x d) (w d) j]
  refine Fin.sum_mul_add_congr fun d k hl => ?_
  rw [hx, hw, Layout.block_apply, Layout.block_apply]
  exact congrArg₂ (fun a b : EReal => a * b) (congrArg X (column_block _ d (j 0) k hl)) (congrArg W (row_block _ d k (j 1) hl))

/-- A device's second product of a layer, at an element. -/
theorem last_apply (U : FVec Ideal S128x256 .bf16) (w : Vec Ideal S256x128 .bf16) (j : S128x128.Idx) :
    (last U w : FVec Ideal S128x128 .f32) j = ∑ k : Fin 256, max (U (at₂ (j 0) k) : EReal) 0 * w (at₂ k (j 1)) := by
  unfold last k0_pay2
  pointwise
  rfl
/-- The reference's, at an element. -/
theorem wholeSecond_apply (U : FVec Ideal S128x256 .bf16) (W : WideW) (j : (⟨2, ![128, 2048]⟩ : Shape).Idx) :
    wholeSecond U W j = ∑ k : Fin 256, max (U (at₂ (j 0) k) : EReal) 0 * W (at₂ k (j 1)) := by
  unfold wholeSecond zeroes
  pointwise
  rfl

/-- A device's second product with its block of the weights is its block of the reference's. -/
theorem second_block (U : FVec Ideal S128x256 .bf16) (W : WideW) (c : Dev nD) (w : Vec Ideal S256x128 .bf16)
    (hw : w = Layout.block ⟨2, ![256, 128]⟩ ⟨2, ![256, 2048]⟩ 1 16 c W) :
    (last U w : S128x128.Idx → EReal) = Layout.block ⟨2, ![128, 128]⟩ ⟨2, ![128, 2048]⟩ 1 16 c (wholeSecond U W : (⟨2, ![128, 2048]⟩ : Shape).Idx → EReal) := by
  funext j
  obtain ⟨r, q, rfl⟩ : ∃ (r : Fin 128) (q : Fin 128), j = at₂ r q :=
    ⟨j 0, j 1, by funext a; match a with | ⟨0, _⟩ => rfl | ⟨1, _⟩ => rfl⟩
  have hl : c.val * 128 + q.val < 2048 := by
    have hc : c.val < 16 := c.isLt
    have := q.isLt
    omega
  rw [Layout.block_apply, column_block _ c r q hl, hw]
  refine (last_apply U _ _).trans ((Finset.sum_congr rfl fun k _ => ?_).trans (wholeSecond_apply U W _).symm)
  exact congrArg (fun b : EReal => max (U (at₂ r k) : EReal) 0 * b) ((Layout.block_apply c W _ _).trans (congrArg W (column_block _ c k q hl)))

/-- The step between layers is the second product and then the next layer's first. -/
theorem next_eq (U : FVec Ideal S128x256 .bf16) (w : Vec Ideal S256x128 .bf16) (w' : Vec Ideal S128x256 .bf16) :
    next U w w' = first (truncf .bf16 (last U w) bitsLt_bf16_f32) w' := by
  unfold next k0_pay16 first k0_pay3 last k0_pay2
  simp only [shapeCast_self]

/-! ## The layers -/

/-- One layer of the reference on the activations: both products. -/
def layer (X : WideX) (W : TallW) (O : WideW) : WideX := wholeSecond (wholeFirst X W) O

/-- From the devices' first products of a layer, after the layer's two rounds: every device holds the whole first product. -/
theorem layer_sum (n n' : ℕ) (hn : n % 6 = 0) (hn' : n' % 6 = 3) (A : Dev nD → Vec Ideal S128x256 .bf16)
    (X : WideX) (W : TallW) (x : Dev nD → Vec Ideal S128x128 .bf16) (w : Dev nD → Vec Ideal S128x256 .bf16)
    (hA : ∀ d, A d = first (x d) (w d))
    (hx : ∀ d, x d = Layout.block ⟨2, ![128, 128]⟩ ⟨2, ![128, 2048]⟩ 1 16 d X)
    (hw : ∀ d, w d = Layout.block ⟨2, ![128, 256]⟩ ⟨2, ![2048, 256]⟩ 0 16 d W) (c : Dev nD) :
    roundSum n' (roundSum n A) c = wholeFirst X W := by
  obtain rfl : A = fun d => first (x d) (w d) := funext hA
  exact (rounds_sum n n' hn hn' _ c).trans (first_sum X W x w hx hw)

/-- If every device's inputs are its blocks of the whole arrays, its result is its block of the three layers' result. -/
theorem result_block (I : Dev nD → In Ideal) (X : WideX) (W : ℕ → TallW) (O : ℕ → WideW)
    (hx : ∀ d, (I d).x = Layout.block ⟨2, ![128, 128]⟩ ⟨2, ![128, 2048]⟩ 1 16 d X)
    (hw : ∀ d n, (I d).wi n = Layout.block ⟨2, ![128, 256]⟩ ⟨2, ![2048, 256]⟩ 0 16 d (W n))
    (ho : ∀ d n, (I d).wo n = Layout.block ⟨2, ![256, 128]⟩ ⟨2, ![256, 2048]⟩ 1 16 d (O n)) (c : Dev nD) :
    (result I c : S128x128.Idx → EReal)
      = Layout.block ⟨2, ![128, 128]⟩ ⟨2, ![128, 2048]⟩ 1 16 c (layer (layer (layer X (W 0) (O 0)) (W 1) (O 1)) (W 2) (O 2)) := by
  have h₁ : ∀ d, roundSum 3 (acc I 1) d = wholeFirst X (W 0) :=
    layer_sum 0 3 rfl rfl (acc I 0) X (W 0) (fun d => (I d).x) (fun d => (I d).wi 0) (fun _ => rfl) hx (hw · 0)
  have h₂ : ∀ d, roundSum 9 (acc I 3) d = wholeFirst (layer X (W 0) (O 0)) (W 1) :=
    layer_sum 6 9 rfl rfl (acc I 2) _ (W 1) (fun d => truncf .bf16 (last (roundSum 3 (acc I 1) d) ((I d).wo 0)) bitsLt_bf16_f32) (fun d => (I d).wi 1)
      (fun d => next_eq _ _ _) (fun d => by rw [h₁ d]; exact second_block _ _ d _ (ho d 0)) (hw · 1)
  have h₃ : ∀ d, roundSum 15 (acc I 5) d = wholeFirst (layer (layer X (W 0) (O 0)) (W 1) (O 1)) (W 2) :=
    layer_sum 12 15 rfl rfl (acc I 4) _ (W 2) (fun d => truncf .bf16 (last (roundSum 9 (acc I 3) d) ((I d).wo 1)) bitsLt_bf16_f32) (fun d => (I d).wi 2)
      (fun d => next_eq _ _ _) (fun d => by rw [h₂ d]; exact second_block _ _ d _ (ho d 1)) (hw · 2)
  unfold result
  rw [h₃ c]
  exact second_block _ _ c _ (ho c 2)

end Cert.MlpProof

end
-- ==== Proof.Correct.lean ====
/-
# The claims

What the launch's and the reference's runs say in the claims' words: the arguments unchanged, every counter zero, the
device's result its block of the reference's.
-/
module

public import proofs.«01_k».proof.Defs
public import proofs.«01_k».proof.Proof.Run
public import proofs.«01_k».proof.Proof.Value
public import proofs.«01_k».proof.Proof.Gen.Kernel
public import proofs.«01_k».proof.Proof.Gen.ReferenceIdeal.Run
public import Idealize.ShloMosaic.Lib.Quiescent

@[expose] public section

noncomputable section

namespace Cert.MlpProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## A window is the whole of its array -/

omit [FloatOps F] in
/-- Reading all of an array, as a block at offset zero, gives its contents. -/
theorem read_all (b : Ref sig .tc) (off : Fin b.ty.shape.rank → ℕ) (h : ∀ a, off a = 0) (inb) (f : b.ty.Contents (Elt F)) :
    ((View.whole b).slice (Rect.unit off b.ty.shape.size inb)).read (Elt F) f = f := by
  funext j
  refine congrArg f (funext fun a => Fin.ext ?_)
  rw [ValueKit.view_emb_slice_whole_unit_val, h, Nat.zero_add]

/-- Three arrays as a family, the layers' in order. -/
def layers {α : Type} (a b c : α) : ℕ → α
  | 0 => a
  | 1 => b
  | _ => c

/-- What holds of each of three arrays holds of every layer's. -/
theorem layers_rel {α β : Type} {R : α → β → Prop} {a b c : α} {a' b' c' : β} (h₀ : R a a') (h₁ : R b b') (h₂ : R c c') :
    ∀ n, R (layers a b c n) (layers a' b' c' n)
  | 0 => h₀
  | 1 => h₁
  | _ + 2 => h₂

omit [FloatOps F] in
/-- Each device's inputs are its arrays' contents at the launch. -/
theorem inputs_x (c : Dev nD) : (inputs m c).x = m ((c : Thread nD τ).loc main_arg0) :=
  (read_all main_arg0 _ (fun a => Nat.zero_mul _) _ _ : (win0_0.blk (0 : Fin 1)).view.read (Elt F) (m ((c : Thread nD τ).loc main_arg0)) = _)
omit [FloatOps F] in
/-- Its first weights are its arrays' contents at the launch. -/
theorem inputs_wi (c : Dev nD) (n : ℕ) : (inputs m c).wi n
    = layers (m ((c : Thread nD τ).loc main_arg1) : S128x256.Idx → Elt F .bf16) (m ((c : Thread nD τ).loc main_arg2)) (m ((c : Thread nD τ).loc main_arg3)) n :=
  match n with
  | 0 => (read_all main_arg1 _ (fun a => Nat.zero_mul _) _ _ : (win0_1.blk (0 : Fin 1)).view.read (Elt F) (m ((c : Thread nD τ).loc main_arg1)) = _)
  | 1 => (read_all main_arg2 _ (fun a => Nat.zero_mul _) _ _ : (win0_3.blk (0 : Fin 1)).view.read (Elt F) (m ((c : Thread nD τ).loc main_arg2)) = _)
  | _ + 2 => (read_all main_arg3 _ (fun a => Nat.zero_mul _) _ _ : (win0_5.blk (0 : Fin 1)).view.read (Elt F) (m ((c : Thread nD τ).loc main_arg3)) = _)
omit [FloatOps F] in
/-- Its second weights are its arrays' contents at the launch. -/
theorem inputs_wo (c : Dev nD) (n : ℕ) : (inputs m c).wo n
    = layers (m ((c : Thread nD τ).loc main_arg4) : S256x128.Idx → Elt F .bf16) (m ((c : Thread nD τ).loc main_arg5)) (m ((c : Thread nD τ).loc main_arg6)) n :=
  match n with
  | 0 => (read_all main_arg4 _ (fun a => Nat.zero_mul _) _ _ : (win0_2.blk (0 : Fin 1)).view.read (Elt F) (m ((c : Thread nD τ).loc main_arg4)) = _)
  | 1 => (read_all main_arg5 _ (fun a => Nat.zero_mul _) _ _ : (win0_4.blk (0 : Fin 1)).view.read (Elt F) (m ((c : Thread nD τ).loc main_arg5)) = _)
  | _ + 2 => (read_all main_arg6 _ (fun a => Nat.zero_mul _) _ _ : (win0_6.blk (0 : Fin 1)).view.read (Elt F) (m ((c : Thread nD τ).loc main_arg6)) = _)

/-! ## The result array -/

/-- The run leaves each device's result in its result array. -/
theorem finalA_out (c : Dev nD) : finalA m ρ c 7 = result (inputs m) c := by
  refine (dats m ρ 0 c).arrAt_eq_of_after_last 7 t₁ (by decide +kernel) _ fun j => ?_
  blk_simp
  rfl

/-! ## The run, in the claims' words -/

/-- Device `c`'s seven arguments are as at the launch. -/
abbrev Kept (c : Dev nD) (m' : (ℓ : Loc nD τ sig) → Buf (Elt F) ℓ) : Prop :=
  m' ((c : Thread nD τ).loc main_arg0) = m ((c : Thread nD τ).loc main_arg0)
  ∧ m' ((c : Thread nD τ).loc main_arg1) = m ((c : Thread nD τ).loc main_arg1)
  ∧ m' ((c : Thread nD τ).loc main_arg2) = m ((c : Thread nD τ).loc main_arg2)
  ∧ m' ((c : Thread nD τ).loc main_arg3) = m ((c : Thread nD τ).loc main_arg3)
  ∧ m' ((c : Thread nD τ).loc main_arg4) = m ((c : Thread nD τ).loc main_arg4)
  ∧ m' ((c : Thread nD τ).loc main_arg5) = m ((c : Thread nD τ).loc main_arg5)
  ∧ m' ((c : Thread nD τ).loc main_arg6) = m ((c : Thread nD τ).loc main_arg6)

/-- The program runs from any memory with zero counters: each device's result array ends holding its result, its
    arguments unchanged, and every counter zero. -/
theorem run : θ_run defs (onTc (τ := τ) (main (F := F))) ⟨m, fun _ => 0, ρ⟩ fun r =>
    (∀ c : Dev nD, r.2.mem ((c : Thread nD τ).loc main_v1) = result (inputs m) c ∧ Kept m c r.2.mem) ∧ r.2.sem = fun _ => 0 :=
  (θ_run defs _ _).mono (fun r h =>
    have kept (c : Dev nD) (w : Fin cfg0.W) (hw : (cfg0.win w).isOut = false) :
        r.2.mem ((cfg0.win w).arr.view.loc (c : Thread nD τ)) = m ((cfg0.win w).arr.view.loc (c : Thread nD τ)) := (h.1 c w).trans (finalA_in m ρ c w hw)
    ⟨fun c => ⟨(h.1 c 7).trans (finalA_out m ρ c),
      kept c 0 rfl, kept c 1 rfl, kept c 3 rfl, kept c 5 rfl, kept c 2 rfl, kept c 4 rfl, kept c 6 rfl⟩, h.2⟩) (run_main m ρ)

end Cert.MlpProof

namespace Cert.MlpProof

open Idealize.ShloMosaic Idealize.SL.Sem

/-- The kernel and its idealization have the same body table. -/
theorem bodies_same : Cert.Kernel.defs₀ (F := Bits) = Cert.KernelIdeal.defs₀ (F := Bits) := by
  unfold Cert.Kernel.defs₀ Cert.KernelIdeal.defs₀
  congr 1
  funext l
  match l with
  | ⟨0, _⟩ => rfl
  | ⟨n + 1, h⟩ => exact absurd h (Nat.not_lt.2 (Nat.le_add_left _ _))

/-- The idealization's program runs under any body table equal to its own. -/
theorem run_under (m : (ℓ : Loc Cert.KernelIdeal.nD Cert.KernelIdeal.τ Cert.KernelIdeal.sig) → Buf (Elt Bits) ℓ) (ρ : Dev Cert.KernelIdeal.nD → PrngReg)
    (bodies) (h : bodies = Cert.KernelIdeal.defs₀ (F := Bits)) :
    θ_run (Pipeline.defs Cert.KernelIdeal.pcfgs bodies) (onTc (τ := Cert.KernelIdeal.τ) (Cert.KernelIdeal.main (F := Bits))) ⟨m, fun _ => 0, ρ⟩ fun r =>
      (∀ c, Kept m c r.2.mem) ∧ r.2.sem = fun _ => 0 := by
  subst h
  exact (θ_run Cert.KernelIdeal.defs _ _).mono (fun _ h => ⟨fun c => (h.1 c).2, h.2⟩) (run m ρ)

/-- The kernel's program runs, its arguments unchanged and every counter zero at the end. -/
theorem kernel_quiescent : Cert.quiescent_Kernel (hKernel := Cert.Kernel.Gen.facts) := fun m ρ _ => run_under m ρ _ bodies_same

/-- So does its idealization. -/
theorem ideal_quiescent : Cert.quiescent_KernelIdeal (hKernelIdeal := Cert.KernelIdeal.Gen.facts) := fun m ρ _ =>
  (θ_run Cert.KernelIdeal.defs _ _).mono (fun _ h => ⟨fun c => (h.1 c).2, h.2⟩) (run (F := Ideal) m ρ)

/-- So does the reference, which has no counters. -/
theorem reference_quiescent : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's. -/
theorem algebraic : Cert.algebraic_KernelIdeal_ReferenceIdeal (hKernelIdeal := Cert.KernelIdeal.Gen.facts)
    (hReferenceIdeal := Cert.ReferenceIdeal.Gen.facts) := by
  intro m ρ m' ρ' _ hm
  refine ⟨_, ?_, (θ_run Cert.ReferenceIdeal.defs _ _).mono (fun r h => h 0) (Cert.ReferenceIdeal.Value.run (F := Ideal) m' ρ')⟩
  refine (θ_run Cert.KernelIdeal.defs _ _).mono (fun r h c => ⟨(h.1 c).1.trans ?_, (h.1 c).2⟩) (run (F := Ideal) m ρ)
  let at' (b : Ref Cert.ReferenceIdeal.sig .tc) := m' (((0 : Dev Cert.ReferenceIdeal.nD).tc : Thread _ Cert.ReferenceIdeal.τ).loc b)
  exact result_block (inputs m) (at' Cert.ReferenceIdeal.main_arg0)
    (layers (at' Cert.ReferenceIdeal.main_arg1 : TallW) (at' Cert.ReferenceIdeal.main_arg2) (at' Cert.ReferenceIdeal.main_arg3))
    (layers (at' Cert.ReferenceIdeal.main_arg4 : WideW) (at' Cert.ReferenceIdeal.main_arg5) (at' Cert.ReferenceIdeal.main_arg6))
    (fun d => (inputs_x m d).trans (hm d).1)
    (fun d n => (inputs_wi m d n).trans (layers_rel (R := fun u U => u = Layout.block ⟨2, ![128, 256]⟩ ⟨2, ![2048, 256]⟩ 0 16 d U)
      (hm d).2.1 (hm d).2.2.1 (hm d).2.2.2.1 n))
    (fun d n => (inputs_wo m d n).trans (layers_rel (R := fun u U => u = Layout.block ⟨2, ![256, 128]⟩ ⟨2, ![256, 2048]⟩ 1 16 d U)
      (hm d).2.2.2.2.1 (hm d).2.2.2.2.2.1 (hm d).2.2.2.2.2.2 n)) c

end Cert.MlpProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Correct
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.MlpProof.kernel_quiescent, Cert.MlpProof.ideal_quiescent, Cert.MlpProof.reference_quiescent, trivial, Cert.MlpProof.algebraic⟩

end Cert.Proof

end
